-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_network [hPre_finite_network : Cert.Pre_finite_network.Facts] (m : (ℓ : Loc Cert.KernelIdeal.nD Cert.KernelIdeal.τ Cert.KernelIdeal.sig) → Buf (Elt Ideal) ℓ) : Prop :=
  ∀ c : Dev Cert.KernelIdeal.nD,
    (Cert.Pre_finite_network.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).1 = (fun _ => 1#1)
    ∧ (Cert.Pre_finite_network.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.1 = (fun _ => 1#1)
    ∧ (Cert.Pre_finite_network.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2.1 = (fun _ => 1#1)
    ∧ (Cert.Pre_finite_network.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2.2.1 = (fun _ => 1#1)
    ∧ (Cert.Pre_finite_network.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_network [hPre_finite_network : Cert.Pre_finite_network.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_network.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).1 = (fun _ => 1#1)
    ∧ (Cert.Pre_finite_network.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.1 = (fun _ => 1#1)
    ∧ (Cert.Pre_finite_network.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.2.1 = (fun _ => 1#1)
    ∧ (Cert.Pre_finite_network.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.2.2.1 = (fun _ => 1#1)
    ∧ (Cert.Pre_finite_network.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_KernelIdeal_pre_finite_network [hKernelIdeal : Cert.KernelIdeal.Facts] [hPre_finite_network : Cert.Pre_finite_network.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_network m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def quiescent_ReferenceIdeal_pre_finite_network [hReferenceIdeal : Cert.ReferenceIdeal.Facts] [hPre_finite_network : Cert.Pre_finite_network.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_network m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def preserves_Kernel_KernelIdeal : Prop :=
  True

def algebraic_KernelIdeal_ReferenceIdeal_pre_finite_network [hKernelIdeal : Cert.KernelIdeal.Facts] [hReferenceIdeal : Cert.ReferenceIdeal.Facts] [hPre_finite_network : Cert.Pre_finite_network.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_network m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v94)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v94) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v69) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_network : Cert.Pre_finite_network.Facts),
    quiescent_Kernel (hKernel := hKernel)
    ∧ quiescent_KernelIdeal (hKernelIdeal := hKernelIdeal)
    ∧ quiescent_KernelIdeal_pre_finite_network (hKernelIdeal := hKernelIdeal) (hPre_finite_network := hPre_finite_network)
    ∧ quiescent_ReferenceIdeal (hReferenceIdeal := hReferenceIdeal)
    ∧ quiescent_ReferenceIdeal_pre_finite_network (hReferenceIdeal := hReferenceIdeal) (hPre_finite_network := hPre_finite_network)
    ∧ preserves_Kernel_KernelIdeal
    ∧ algebraic_KernelIdeal_ReferenceIdeal_pre_finite_network (hKernelIdeal := hKernelIdeal) (hReferenceIdeal := hReferenceIdeal) (hPre_finite_network := hPre_finite_network)
-- ==== Pre_finite_network.lean ====
abbrev S8x4096x64 : Shape := ⟨3, ![8, 4096, 64]⟩
abbrev S4096x4096 : Shape := ⟨2, ![4096, 4096]⟩
abbrev S3x64x32 : Shape := ⟨3, ![3, 64, 32]⟩
abbrev S32 : Shape := ⟨1, ![32]⟩
abbrev S3x32x16 : Shape := ⟨3, ![3, 32, 16]⟩
abbrev S16 : Shape := ⟨1, ![16]⟩
abbrev S65536x512 : Shape := ⟨2, ![65536, 512]⟩
abbrev S512 : Shape := ⟨1, ![512]⟩
abbrev S512x128 : Shape := ⟨2, ![512, 128]⟩
abbrev S128 : Shape := ⟨1, ![128]⟩
abbrev S128x10 : Shape := ⟨2, ![128, 10]⟩
abbrev S10 : Shape := ⟨1, ![10]⟩
abbrev S_ : Shape := ⟨0, ![]⟩

class Facts : Prop where
  bcast_S_S8x4096x64 : S_.BroadcastsInDim S8x4096x64 (![] : Fin 0 → Fin S8x4096x64.rank)
  bcast_S_S4096x4096 : S_.BroadcastsInDim S4096x4096 (![] : Fin 0 → Fin S4096x4096.rank)
  bcast_S_S3x64x32 : S_.BroadcastsInDim S3x64x32 (![] : Fin 0 → Fin S3x64x32.rank)
  bcast_S_S32 : S_.BroadcastsInDim S32 (![] : Fin 0 → Fin S32.rank)
  bcast_S_S3x32x16 : S_.BroadcastsInDim S3x32x16 (![] : Fin 0 → Fin S3x32x16.rank)

variable [Facts]

def fn_part1 {F : FTy → Type} [FloatOps F] (main_arg3 : FVec F S32 .f32) (main_arg4 : FVec F S3x32x16 .f32) (main_v4 : IVec S8x4096x64 1) (main_v9 : IVec S4096x4096 1) (main_v14 : IVec S3x64x32 1) (main_v16 : IVec S32 1) : IVec S8x4096x64 1 × IVec S4096x4096 1 × IVec S3x64x32 1 × IVec S32 1 × IVec S3x32x16 1 :=
  let main_cst_6 : FVec F S_ .f32 := constant S_ .f32 0x7F800000#32
  let main_v17 : FVec F S32 .f32 := broadcastInDim S32 ![] bcast_S_S32 main_cst_6
  let main_v18 : IVec S32 1 := cmpf .olt main_arg3 main_v17
  let main_v19 : IVec S32 1 := andi main_v16 main_v18
  let main_cst_7 : FVec F S_ .f32 := constant S_ .f32 0xFF800000#32
  let main_v20 : FVec F S3x32x16 .f32 := broadcastInDim S3x32x16 ![] bcast_S_S3x32x16 main_cst_7
  let main_v21 : IVec S3x32x16 1 := cmpf .ogt main_arg4 main_v20
  let main_cst_8 : FVec F S_ .f32 := constant S_ .f32 0x7F800000#32
  let main_v22 : FVec F S3x32x16 .f32 := broadcastInDim S3x32x16 ![] bcast_S_S3x32x16 main_cst_8
  let main_v23 : IVec S3x32x16 1 := cmpf .olt main_arg4 main_v22
  let main_v24 : IVec S3x32x16 1 := andi main_v21 main_v23
  (main_v4, main_v9, main_v14, main_v19, main_v24)

def fn {F : FTy → Type} [FloatOps F] (main_arg0 : FVec F S8x4096x64 .f32) (main_arg1 : FVec F S4096x4096 .f32) (main_arg2 : FVec F S3x64x32 .f32) (main_arg3 : FVec F S32 .f32) (main_arg4 : FVec F S3x32x16 .f32) (main_arg5 : FVec F S16 .f32) (main_arg6 : FVec F S65536x512 .f32) (main_arg7 : FVec F S512 .f32) (main_arg8 : FVec F S512x128 .f32) (main_arg9 : FVec F S128 .f32) (main_arg10 : FVec F S128x10 .f32) (main_arg11 : FVec F S10 .f32) : IVec S8x4096x64 1 × IVec S4096x4096 1 × IVec S3x64x32 1 × IVec S32 1 × IVec S3x32x16 1 :=
  let main_cst : FVec F S_ .f32 := constant S_ .f32 0xFF800000#32
  let main_v0 : FVec F S8x4096x64 .f32 := broadcastInDim S8x4096x64 ![] bcast_S_S8x4096x64 main_cst
  let main_v1 : IVec S8x4096x64 1 := cmpf .ogt main_arg0 main_v0
  let main_cst_0 : FVec F S_ .f32 := constant S_ .f32 0x7F800000#32
  let main_v2 : FVec F S8x4096x64 .f32 := broadcastInDim S8x4096x64 ![] bcast_S_S8x4096x64 main_cst_0
  let main_v3 : IVec S8x4096x64 1 := cmpf .olt main_arg0 main_v2
  let main_v4 : IVec S8x4096x64 1 := andi main_v1 main_v3
  let main_cst_1 : FVec F S_ .f32 := constant S_ .f32 0xFF800000#32
  let main_v5 : FVec F S4096x4096 .f32 := broadcastInDim S4096x4096 ![] bcast_S_S4096x4096 main_cst_1
  let main_v6 : IVec S4096x4096 1 := cmpf .ogt main_arg1 main_v5
  let main_cst_2 : FVec F S_ .f32 := constant S_ .f32 0x7F800000#32
  let main_v7 : FVec F S4096x4096 .f32 := broadcastInDim S4096x4096 ![] bcast_S_S4096x4096 main_cst_2
  let main_v8 : IVec S4096x4096 1 := cmpf .olt main_arg1 main_v7
  let main_v9 : IVec S4096x4096 1 := andi main_v6 main_v8
  let main_cst_3 : FVec F S_ .f32 := constant S_ .f32 0xFF800000#32
  let main_v10 : FVec F S3x64x32 .f32 := broadcastInDim S3x64x32 ![] bcast_S_S3x64x32 main_cst_3
  let main_v11 : IVec S3x64x32 1 := cmpf .ogt main_arg2 main_v10
  let main_cst_4 : FVec F S_ .f32 := constant S_ .f32 0x7F800000#32
  let main_v12 : FVec F S3x64x32 .f32 := broadcastInDim S3x64x32 ![] bcast_S_S3x64x32 main_cst_4
  let main_v13 : IVec S3x64x32 1 := cmpf .olt main_arg2 main_v12
  let main_v14 : IVec S3x64x32 1 := andi main_v11 main_v13
  let main_cst_5 : FVec F S_ .f32 := constant S_ .f32 0xFF800000#32
  let main_v15 : FVec F S32 .f32 := broadcastInDim S32 ![] bcast_S_S32 main_cst_5
  let main_v16 : IVec S32 1 := cmpf .ogt main_arg3 main_v15
  fn_part1 (F := F) main_arg3 main_arg4 main_v4 main_v9 main_v14 main_v16
-- ==== Kernel.lean ====
abbrev S8x4096x64 : Shape := ⟨3, ![8, 4096, 64]⟩
abbrev S4096x4096 : Shape := ⟨2, ![4096, 4096]⟩
abbrev S3x64x32 : Shape := ⟨3, ![3, 64, 32]⟩
abbrev S32 : Shape := ⟨1, ![32]⟩
abbrev S3x32x16 : Shape := ⟨3, ![3, 32, 16]⟩
abbrev S16 : Shape := ⟨1, ![16]⟩
abbrev S65536x512 : Shape := ⟨2, ![65536, 512]⟩
abbrev S512 : Shape := ⟨1, ![512]⟩
abbrev S512x128 : Shape := ⟨2, ![512, 128]⟩
abbrev S128 : Shape := ⟨1, ![128]⟩
abbrev S128x10 : Shape := ⟨2, ![128, 10]⟩
abbrev S10 : Shape := ⟨1, ![10]⟩
abbrev S4096x8x64 : Shape := ⟨3, ![4096, 8, 64]⟩
abbrev S4096x512 : Shape := ⟨2, ![4096, 512]⟩
abbrev S1x64x32 : Shape := ⟨3, ![1, 64, 32]⟩
abbrev S64x32 : Shape := ⟨2, ![64, 32]⟩
abbrev S8x8 : Shape := ⟨2, ![8, 8]⟩
abbrev S_ : Shape := ⟨0, ![]⟩
abbrev S8x1x8x1 : Shape := ⟨4, ![8, 1, 8, 1]⟩
abbrev S1x64x1x32 : Shape := ⟨4, ![1, 64, 1, 32]⟩
abbrev S8x64x8x32 : Shape := ⟨4, ![8, 64, 8, 32]⟩
abbrev S512x256 : Shape := ⟨2, ![512, 256]⟩
abbrev S512x768 : Shape := ⟨2, ![512, 768]⟩
abbrev S1x32x16 : Shape := ⟨3, ![1, 32, 16]⟩
abbrev S32x16 : Shape := ⟨2, ![32, 16]⟩
abbrev S8x1x1x8 : Shape := ⟨4, ![8, 1, 1, 8]⟩
abbrev S1x32x16x1 : Shape := ⟨4, ![1, 32, 16, 1]⟩
abbrev S8x32x16x8 : Shape := ⟨4, ![8, 32, 16, 8]⟩
abbrev S256x128 : Shape := ⟨2, ![256, 128]⟩
abbrev S256x384 : Shape := ⟨2, ![256, 384]⟩
abbrev S1x32 : Shape := ⟨2, ![1, 32]⟩
abbrev S8x32 : Shape := ⟨2, ![8, 32]⟩
abbrev S256 : Shape := ⟨1, ![256]⟩
abbrev S1x256 : Shape := ⟨2, ![1, 256]⟩
abbrev S16x8 : Shape := ⟨2, ![16, 8]⟩
abbrev S1x128 : Shape := ⟨2, ![1, 128]⟩
abbrev S4096x128 : Shape := ⟨2, ![4096, 128]⟩
abbrev S256x4096 : Shape := ⟨2, ![256, 4096]⟩
abbrev S1024x128 : Shape := ⟨2, ![1024, 128]⟩
abbrev S4096x256 : Shape := ⟨2, ![4096, 256]⟩
abbrev S128x512 : Shape := ⟨2, ![128, 512]⟩
abbrev S128x768 : Shape := ⟨2, ![128, 768]⟩
abbrev S128x256 : Shape := ⟨2, ![128, 256]⟩
abbrev S256x512 : Shape := ⟨2, ![256, 512]⟩
abbrev S256x256 : Shape := ⟨2, ![256, 256]⟩
abbrev S1024x4096 : Shape := ⟨2, ![1024, 4096]⟩
abbrev S1024x256 : Shape := ⟨2, ![1024, 256]⟩
abbrev S1024x384 : Shape := ⟨2, ![1024, 384]⟩
abbrev S65536x8 : Shape := ⟨2, ![65536, 8]⟩
abbrev S1x512 : Shape := ⟨2, ![1, 512]⟩
abbrev S1x10 : Shape := ⟨2, ![1, 10]⟩
abbrev S8x10 : Shape := ⟨2, ![8, 10]⟩
abbrev S8192x8 : Shape := ⟨2, ![8192, 8]⟩
abbrev S8192x512 : Shape := ⟨2, ![8192, 512]⟩
abbrev S8x512 : Shape := ⟨2, ![8, 512]⟩
abbrev S8x128 : Shape := ⟨2, ![8, 128]⟩
abbrev S8 : Shape := ⟨1, ![8]⟩
abbrev S8x1 : Shape := ⟨2, ![8, 1]⟩

abbrev nBuf : Space → Nat
  | .hbm => 128
  | .vmem => 29
  | .smem => 0
  | _ => 0

abbrev bufTy : (tb : Table) → Fin (tcTables nBuf tb) → BufTy
  | .hbm, ⟨0, _⟩ => ⟨S8x4096x64, .f32⟩
  | .hbm, ⟨1, _⟩ => ⟨S4096x4096, .f32⟩
  | .hbm, ⟨2, _⟩ => ⟨S3x64x32, .f32⟩
  | .hbm, ⟨3, _⟩ => ⟨S32, .f32⟩
  | .hbm, ⟨4, _⟩ => ⟨S3x32x16, .f32⟩
  | .hbm, ⟨5, _⟩ => ⟨S16, .f32⟩
  | .hbm, ⟨6, _⟩ => ⟨S65536x512, .f32⟩
  | .hbm, ⟨7, _⟩ => ⟨S512, .f32⟩
  | .hbm, ⟨8, _⟩ => ⟨S512x128, .f32⟩
  | .hbm, ⟨9, _⟩ => ⟨S128, .f32⟩
  | .hbm, ⟨10, _⟩ => ⟨S128x10, .f32⟩
  | .hbm, ⟨11, _⟩ => ⟨S10, .f32⟩
  | .hbm, ⟨12, _⟩ => ⟨S4096x8x64, .f32⟩
  | .hbm, ⟨13, _⟩ => ⟨S4096x512, .f32⟩
  | .hbm, ⟨14, _⟩ => ⟨S4096x512, .bf16⟩
  | .hbm, ⟨15, _⟩ => ⟨S1x64x32, .f32⟩
  | .hbm, ⟨16, _⟩ => ⟨S64x32, .f32⟩
  | .hbm, ⟨17, _⟩ => ⟨S8x8, .i32⟩
  | .hbm, ⟨18, _⟩ => ⟨S8x8, .i32⟩
  | .hbm, ⟨19, _⟩ => ⟨S_, .i32⟩
  | .hbm, ⟨20, _⟩ => ⟨S8x8, .i32⟩
  | .hbm, ⟨21, _⟩ => ⟨S8x8, .i32⟩
  | .hbm, ⟨22, _⟩ => ⟨S8x8, .i1⟩
  | .hbm, ⟨23, _⟩ => ⟨S8x8, .f32⟩
  | .hbm, ⟨24, _⟩ => ⟨S8x1x8x1, .f32⟩
  | .hbm, ⟨25, _⟩ => ⟨S1x64x1x32, .f32⟩
  | .hbm, ⟨26, _⟩ => ⟨S8x64x8x32, .f32⟩
  | .hbm, ⟨27, _⟩ => ⟨S8x64x8x32, .f32⟩
  | .hbm, ⟨28, _⟩ => ⟨S8x64x8x32, .f32⟩
  | .hbm, ⟨29, _⟩ => ⟨S512x256, .f32⟩
  | .hbm, ⟨30, _⟩ => ⟨S1x64x32, .f32⟩
  | .hbm, ⟨31, _⟩ => ⟨S64x32, .f32⟩
  | .hbm, ⟨32, _⟩ => ⟨S8x8, .i32⟩
  | .hbm, ⟨33, _⟩ => ⟨S8x8, .i32⟩
  | .hbm, ⟨34, _⟩ => ⟨S_, .i32⟩
  | .hbm, ⟨35, _⟩ => ⟨S8x8, .i32⟩
  | .hbm, ⟨36, _⟩ => ⟨S8x8, .i32⟩
  | .hbm, ⟨37, _⟩ => ⟨S8x8, .i1⟩
  | .hbm, ⟨38, _⟩ => ⟨S8x8, .f32⟩
  | .hbm, ⟨39, _⟩ => ⟨S8x1x8x1, .f32⟩
  | .hbm, ⟨40, _⟩ => ⟨S1x64x1x32, .f32⟩
  | .hbm, ⟨41, _⟩ => ⟨S8x64x8x32, .f32⟩
  | .hbm, ⟨42, _⟩ => ⟨S8x64x8x32, .f32⟩
  | .hbm, ⟨43, _⟩ => ⟨S8x64x8x32, .f32⟩
  | .hbm, ⟨44, _⟩ => ⟨S512x256, .f32⟩
  | .hbm, ⟨45, _⟩ => ⟨S1x64x32, .f32⟩
  | .hbm, ⟨46, _⟩ => ⟨S64x32, .f32⟩
  | .hbm, ⟨47, _⟩ => ⟨S1x64x32, .f32⟩
  | .hbm, ⟨48, _⟩ => ⟨S64x32, .f32⟩
  | .hbm, ⟨49, _⟩ => ⟨S64x32, .f32⟩
  | .hbm, ⟨50, _⟩ => ⟨S8x8, .i32⟩
  | .hbm, ⟨51, _⟩ => ⟨S8x8, .i32⟩
  | .hbm, ⟨52, _⟩ => ⟨S_, .i32⟩
  | .hbm, ⟨53, _⟩ => ⟨S8x8, .i32⟩
  | .hbm, ⟨54, _⟩ => ⟨S8x8, .i32⟩
  | .hbm, ⟨55, _⟩ => ⟨S8x8, .i1⟩
  | .hbm, ⟨56, _⟩ => ⟨S8x8, .f32⟩
  | .hbm, ⟨57, _⟩ => ⟨S8x1x8x1, .f32⟩
  | .hbm, ⟨58, _⟩ => ⟨S1x64x1x32, .f32⟩
  | .hbm, ⟨59, _⟩ => ⟨S8x64x8x32, .f32⟩
  | .hbm, ⟨60, _⟩ => ⟨S8x64x8x32, .f32⟩
  | .hbm, ⟨61, _⟩ => ⟨S8x64x8x32, .f32⟩
  | .hbm, ⟨62, _⟩ => ⟨S512x256, .f32⟩
  | .hbm, ⟨63, _⟩ => ⟨S512x768, .f32⟩
  | .hbm, ⟨64, _⟩ => ⟨S512x768, .bf16⟩
  | .hbm, ⟨65, _⟩ => ⟨S1x32x16, .f32⟩
  | .hbm, ⟨66, _⟩ => ⟨S32x16, .f32⟩
  | .hbm, ⟨67, _⟩ => ⟨S8x8, .i32⟩
  | .hbm, ⟨68, _⟩ => ⟨S8x8, .i32⟩
  | .hbm, ⟨69, _⟩ => ⟨S_, .i32⟩
  | .hbm, ⟨70, _⟩ => ⟨S8x8, .i32⟩
  | .hbm, ⟨71, _⟩ => ⟨S8x8, .i32⟩
  | .hbm, ⟨72, _⟩ => ⟨S8x8, .i1⟩
  | .hbm, ⟨73, _⟩ => ⟨S8x8, .f32⟩
  | .hbm, ⟨74, _⟩ => ⟨S8x1x1x8, .f32⟩
  | .hbm, ⟨75, _⟩ => ⟨S1x32x16x1, .f32⟩
  | .hbm, ⟨76, _⟩ => ⟨S8x32x16x8, .f32⟩
  | .hbm, ⟨77, _⟩ => ⟨S8x32x16x8, .f32⟩
  | .hbm, ⟨78, _⟩ => ⟨S8x32x16x8, .f32⟩
  | .hbm, ⟨79, _⟩ => ⟨S256x128, .f32⟩
  | .hbm, ⟨80, _⟩ => ⟨S1x32x16, .f32⟩
  | .hbm, ⟨81, _⟩ => ⟨S32x16, .f32⟩
  | .hbm, ⟨82, _⟩ => ⟨S8x8, .i32⟩
  | .hbm, ⟨83, _⟩ => ⟨S8x8, .i32⟩
  | .hbm, ⟨84, _⟩ => ⟨S_, .i32⟩
  | .hbm, ⟨85, _⟩ => ⟨S8x8, .i32⟩
  | .hbm, ⟨86, _⟩ => ⟨S8x8, .i32⟩
  | .hbm, ⟨87, _⟩ => ⟨S8x8, .i1⟩
  | .hbm, ⟨88, _⟩ => ⟨S8x8, .f32⟩
  | .hbm, ⟨89, _⟩ => ⟨S8x1x1x8, .f32⟩
  | .hbm, ⟨90, _⟩ => ⟨S1x32x16x1, .f32⟩
  | .hbm, ⟨91, _⟩ => ⟨S8x32x16x8, .f32⟩
  | .hbm, ⟨92, _⟩ => ⟨S8x32x16x8, .f32⟩
  | .hbm, ⟨93, _⟩ => ⟨S8x32x16x8, .f32⟩
  | .hbm, ⟨94, _⟩ => ⟨S256x128, .f32⟩
  | .hbm, ⟨95, _⟩ => ⟨S1x32x16, .f32⟩
  | .hbm, ⟨96, _⟩ => ⟨S32x16, .f32⟩
  | .hbm, ⟨97, _⟩ => ⟨S1x32x16, .f32⟩
  | .hbm, ⟨98, _⟩ => ⟨S32x16, .f32⟩
  | .hbm, ⟨99, _⟩ => ⟨S32x16, .f32⟩
  | .hbm, ⟨100, _⟩ => ⟨S8x8, .i32⟩
  | .hbm, ⟨101, _⟩ => ⟨S8x8, .i32⟩
  | .hbm, ⟨102, _⟩ => ⟨S_, .i32⟩
  | .hbm, ⟨103, _⟩ => ⟨S8x8, .i32⟩
  | .hbm, ⟨104, _⟩ => ⟨S8x8, .i32⟩
  | .hbm, ⟨105, _⟩ => ⟨S8x8, .i1⟩
  | .hbm, ⟨106, _⟩ => ⟨S8x8, .f32⟩
  | .hbm, ⟨107, _⟩ => ⟨S8x1x1x8, .f32⟩
  | .hbm, ⟨108, _⟩ => ⟨S1x32x16x1, .f32⟩
  | .hbm, ⟨109, _⟩ => ⟨S8x32x16x8, .f32⟩
  | .hbm, ⟨110, _⟩ => ⟨S8x32x16x8, .f32⟩
  | .hbm, ⟨111, _⟩ => ⟨S8x32x16x8, .f32⟩
  | .hbm, ⟨112, _⟩ => ⟨S256x128, .f32⟩
  | .hbm, ⟨113, _⟩ => ⟨S256x384, .f32⟩
  | .hbm, ⟨114, _⟩ => ⟨S256x384, .bf16⟩
  | .hbm, ⟨115, _⟩ => ⟨S1x32, .f32⟩
  | .hbm, ⟨116, _⟩ => ⟨S8x32, .f32⟩
  | .hbm, ⟨117, _⟩ => ⟨S256, .f32⟩
  | .hbm, ⟨118, _⟩ => ⟨S1x256, .f32⟩
  | .hbm, ⟨119, _⟩ => ⟨S16x8, .f32⟩
  | .hbm, ⟨120, _⟩ => ⟨S128, .f32⟩
  | .hbm, ⟨121, _⟩ => ⟨S1x128, .f32⟩
  | .hbm, ⟨122, _⟩ => ⟨S4096x128, .f32⟩
  | .hbm, ⟨123, _⟩ => ⟨S65536x8, .f32⟩
  | .hbm, ⟨124, _⟩ => ⟨S1x512, .f32⟩
  | .hbm, ⟨125, _⟩ => ⟨S1x128, .f32⟩
  | .hbm, ⟨126, _⟩ => ⟨S1x10, .f32⟩
  | .hbm, ⟨127, _⟩ => ⟨S8x10, .f32⟩
  | .local _ .vmem, ⟨0, _⟩ => ⟨S256x4096, .f32⟩
  | .local _ .vmem, ⟨1, _⟩ => ⟨S256x4096, .f32⟩
  | .local _ .vmem, ⟨2, _⟩ => ⟨S4096x512, .bf16⟩
  | .local _ .vmem, ⟨3, _⟩ => ⟨S512x768, .bf16⟩
  | .local _ .vmem, ⟨4, _⟩ => ⟨S256x384, .bf16⟩
  | .local _ .vmem, ⟨5, _⟩ => ⟨S1x256, .f32⟩
  | .local _ .vmem, ⟨6, _⟩ => ⟨S1x128, .f32⟩
  | .local _ .vmem, ⟨7, _⟩ => ⟨S1024x128, .f32⟩
  | .local _ .vmem, ⟨8, _⟩ => ⟨S1024x128, .f32⟩
  | .local _ .vmem, ⟨9, _⟩ => ⟨S4096x4096, .bf16⟩
  | .local _ .vmem, ⟨10, _⟩ => ⟨S4096x512, .bf16⟩
  | .local _ .vmem, ⟨11, _⟩ => ⟨S4096x256, .bf16⟩
  | .local _ .vmem, ⟨12, _⟩ => ⟨S4096x256, .bf16⟩
  | .local _ .vmem, ⟨13, _⟩ => ⟨S4096x256, .bf16⟩
  | .local _ .vmem, ⟨14, _⟩ => ⟨S4096x256, .bf16⟩
  | .local _ .vmem, ⟨15, _⟩ => ⟨S4096x128, .bf16⟩
  | .local _ .vmem, ⟨16, _⟩ => ⟨S4096x128, .bf16⟩
  | .local _ .vmem, ⟨17, _⟩ => ⟨S4096x128, .bf16⟩
  | .local _ .vmem, ⟨18, _⟩ => ⟨S8192x8, .f32⟩
  | .local _ .vmem, ⟨19, _⟩ => ⟨S8192x8, .f32⟩
  | .local _ .vmem, ⟨20, _⟩ => ⟨S8192x512, .f32⟩
  | .local _ .vmem, ⟨21, _⟩ => ⟨S8192x512, .f32⟩
  | .local _ .vmem, ⟨22, _⟩ => ⟨S1x512, .f32⟩
  | .local _ .vmem, ⟨23, _⟩ => ⟨S512x128, .f32⟩
  | .local _ .vmem, ⟨24, _⟩ => ⟨S1x128, .f32⟩
  | .local _ .vmem, ⟨25, _⟩ => ⟨S128x10, .f32⟩
  | .local _ .vmem, ⟨26, _⟩ => ⟨S1x10, .f32⟩
  | .local _ .vmem, ⟨27, _⟩ => ⟨S8x10, .f32⟩
  | .local _ .vmem, ⟨28, _⟩ => ⟨S8x512, .f32⟩
  | _, _ => ⟨S8x4096x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_c : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_call0_v0 : Ref sig .tc := ⟨.hbm, 24, rfl⟩
abbrev main_call0_v1 : Ref sig .tc := ⟨.hbm, 25, rfl⟩
abbrev main_call0_v2 : Ref sig .tc := ⟨.hbm, 26, rfl⟩
abbrev main_call0_v3 : Ref sig .tc := ⟨.hbm, 27, rfl⟩
abbrev main_call0_v4 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_c_0 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_call1_v0 : Ref sig .tc := ⟨.hbm, 39, rfl⟩
abbrev main_call1_v1 : Ref sig .tc := ⟨.hbm, 40, rfl⟩
abbrev main_call1_v2 : Ref sig .tc := ⟨.hbm, 41, rfl⟩
abbrev main_call1_v3 : Ref sig .tc := ⟨.hbm, 42, rfl⟩
abbrev main_call1_v4 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_c_1 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_call2_v0 : Ref sig .tc := ⟨.hbm, 57, rfl⟩
abbrev main_call2_v1 : Ref sig .tc := ⟨.hbm, 58, rfl⟩
abbrev main_call2_v2 : Ref sig .tc := ⟨.hbm, 59, rfl⟩
abbrev main_call2_v3 : Ref sig .tc := ⟨.hbm, 60, rfl⟩
abbrev main_call2_v4 : Ref sig .tc := ⟨.hbm, 61, rfl⟩
abbrev main_v32 : Ref sig .tc := ⟨.hbm, 62, rfl⟩
abbrev main_v33 : Ref sig .tc := ⟨.hbm, 63, rfl⟩
abbrev main_v34 : Ref sig .tc := ⟨.hbm, 64, rfl⟩
abbrev main_v35 : Ref sig .tc := ⟨.hbm, 65, rfl⟩
abbrev main_v36 : Ref sig .tc := ⟨.hbm, 66, rfl⟩
abbrev main_v37 : Ref sig .tc := ⟨.hbm, 67, rfl⟩
abbrev main_v38 : Ref sig .tc := ⟨.hbm, 68, rfl⟩
abbrev main_c_2 : Ref sig .tc := ⟨.hbm, 69, rfl⟩
abbrev main_v39 : Ref sig .tc := ⟨.hbm, 70, rfl⟩
abbrev main_v40 : Ref sig .tc := ⟨.hbm, 71, rfl⟩
abbrev main_v41 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_c_3 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_c_4 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_v89 : Ref sig .tc := ⟨.hbm, 122, rfl⟩
abbrev main_v90 : Ref sig .tc := ⟨.hbm, 123, rfl⟩
abbrev main_v91 : Ref sig .tc := ⟨.hbm, 124, rfl⟩
abbrev main_v92 : Ref sig .tc := ⟨.hbm, 125, rfl⟩
abbrev main_v93 : Ref sig .tc := ⟨.hbm, 126, rfl⟩
abbrev main_v94 : Ref sig .tc := ⟨.hbm, 127, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_scratch0 : Ref sig .tc := ⟨.vmem, 9, rfl⟩
abbrev cc0_scratch1 : Ref sig .tc := ⟨.vmem, 10, rfl⟩
abbrev cc0_scratch2 : Ref sig .tc := ⟨.vmem, 11, rfl⟩
abbrev cc0_scratch3 : Ref sig .tc := ⟨.vmem, 12, rfl⟩
abbrev cc0_scratch4 : Ref sig .tc := ⟨.vmem, 13, rfl⟩
abbrev cc0_scratch5 : Ref sig .tc := ⟨.vmem, 14, rfl⟩
abbrev cc0_scratch6 : Ref sig .tc := ⟨.vmem, 15, rfl⟩
abbrev cc0_scratch7 : Ref sig .tc := ⟨.vmem, 16, rfl⟩
abbrev cc0_scratch8 : Ref sig .tc := ⟨.vmem, 17, rfl⟩
abbrev cc1_stg0_0 : Ref sig .tc := ⟨.vmem, 18, rfl⟩
abbrev cc1_stg0_1 : Ref sig .tc := ⟨.vmem, 19, rfl⟩
abbrev cc1_stg1_0 : Ref sig .tc := ⟨.vmem, 20, rfl⟩
abbrev cc1_stg1_1 : Ref sig .tc := ⟨.vmem, 21, rfl⟩
abbrev cc1_stg2_0 : Ref sig .tc := ⟨.vmem, 22, rfl⟩
abbrev cc1_stg3_0 : Ref sig .tc := ⟨.vmem, 23, rfl⟩
abbrev cc1_stg4_0 : Ref sig .tc := ⟨.vmem, 24, rfl⟩
abbrev cc1_stg5_0 : Ref sig .tc := ⟨.vmem, 25, rfl⟩
abbrev cc1_stg6_0 : Ref sig .tc := ⟨.vmem, 26, rfl⟩
abbrev cc1_stg7_0 : Ref sig .tc := ⟨.vmem, 27, rfl⟩
abbrev cc1_scratch0 : Ref sig .tc := ⟨.vmem, 28, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem6_0 : DmaSem sig := 17
abbrev cc1_sem7_0 : DmaSem sig := 18

abbrev nD : Nat := 1
abbrev τ : Topo := Topo.v7x

variable {F : FTy → Type} [FloatOps F]

abbrev grid0 : Pipeline.Grid := ⟨1, ![28], ![false]⟩

def k0_mult1 (i : grid0.Coords) : BitVec 32 :=
  let arg0 : BitVec 32 := BitVec.ofNat 32 (i 0).val
  let c16_i32_7 : BitVec 32 := 16#32
  let c0_i32_8 : BitVec 32 := 0#32
  let v21 : BitVec 1 := Scalar.cmpi .eq c16_i32_7 c0_i32_8
  let c1_i32_9 : BitVec 32 := 1#32
  let v22 : BitVec 32 := Scalar.select v21 c1_i32_9 c16_i32_7
  let v23 : BitVec 32 := Scalar.remsi arg0 v22
  let c0_i32_11 : BitVec 32 := 0#32
  let v25 : BitVec 1 := Scalar.cmpi .slt v23 c0_i32_11
  let c0_i32_12 : BitVec 32 := 0#32
  let v26 : BitVec 1 := Scalar.cmpi .slt v22 c0_i32_12
  let v27 : BitVec 1 := Scalar.xori v25 v26
  let c0_i32_10 : BitVec 32 := 0#32
  let v24 : BitVec 1 := Scalar.cmpi .ne v23 c0_i32_10
  let v28 : BitVec 1 := Scalar.andi v27 v24
  let v29 : BitVec 32 := Scalar.addi v23 v22
  let v30 : BitVec 32 := Scalar.select v28 v29 v23
  let c256_i32 : BitVec 32 := 256#32
  let v31 : BitVec 32 := Scalar.muli v30 c256_i32
  v31
def k0_mult2 (i : grid0.Coords) : BitVec 32 :=
  let arg0 : BitVec 32 := BitVec.ofNat 32 (i 0).val
  let c16_i32_13 : BitVec 32 := 16#32
  let v33 : BitVec 32 := Scalar.subi arg0 c16_i32_13
  let c4_i32_14 : BitVec 32 := 4#32
  let c0_i32_15 : BitVec 32 := 0#32
  let v34 : BitVec 1 := Scalar.cmpi .eq c4_i32_14 c0_i32_15
  let c1_i32_16 : BitVec 32 := 1#32
  let v35 : BitVec 32 := Scalar.select v34 c1_i32_16 c4_i32_14
  let v36 : BitVec 32 := Scalar.remsi v33 v35
  let c0_i32_18 : BitVec 32 := 0#32
  let v38 : BitVec 1 := Scalar.cmpi .slt v36 c0_i32_18
  let c0_i32_19 : BitVec 32 := 0#32
  let v39 : BitVec 1 := Scalar.cmpi .slt v35 c0_i32_19
  let v40 : BitVec 1 := Scalar.xori v38 v39
  let c0_i32_17 : BitVec 32 := 0#32
  let v37 : BitVec 1 := Scalar.cmpi .ne v36 c0_i32_17
  let v41 : BitVec 1 := Scalar.andi v40 v37
  let v42 : BitVec 32 := Scalar.addi v36 v35
  let v43 : BitVec 32 := Scalar.select v41 v42 v36
  let c1024_i32 : BitVec 32 := 1024#32
  let v44 : BitVec 32 := Scalar.muli v43 c1024_i32
  v44
def k0_cond1 (i : grid0.Coords) : BitVec 1 :=
  let arg0 : BitVec 32 := BitVec.ofNat 32 (i 0).val
  let c16_i32 : BitVec 32 := 16#32
  let v0 : BitVec 1 := Scalar.cmpi .slt arg0 c16_i32
  let c0_i32_6 : BitVec 32 := 0#32
  let c1_i32_5 : BitVec 32 := 1#32
  let c16_i32_0 : BitVec 32 := 16#32
  let v1 : BitVec 32 := Scalar.subi arg0 c16_i32_0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c4_i32 : BitVec 32 := 4#32
  let c0_i32_2 : BitVec 32 := 0#32
  let v8 : BitVec 1 := Scalar.cmpi .sgt c4_i32 c0_i32_2
  let v9 : BitVec 32 := Scalar.extui v8
  let c0_i32_3 : BitVec 32 := 0#32
  let v10 : BitVec 1 := Scalar.cmpi .slt c4_i32 c0_i32_3
  let v11 : BitVec 32 := Scalar.extui v10
  let v12 : BitVec 32 := Scalar.subi v9 v11
  let v13 : BitVec 1 := Scalar.cmpi .ne v7 v12
  let v14 : BitVec 32 := Scalar.remsi v1 c4_i32
  let c0_i32_4 : BitVec 32 := 0#32
  let v15 : BitVec 1 := Scalar.cmpi .ne v14 c0_i32_4
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let v19 : BitVec 32 := Scalar.addi c1_i32_5 v18
  let v20 : BitVec 32 := Scalar.select v0 c0_i32_6 v19
  let c0_i32_20 : BitVec 32 := 0#32
  let v46 : BitVec 1 := Scalar.cmpi .eq v20 c0_i32_20
  let v47 : BitVec 32 := Scalar.extui v46
  let c0_i32_21 : BitVec 32 := 0#32
  let v48 : BitVec 1 := Scalar.cmpi .ne v47 c0_i32_21
  v48

def k0_cond2 (i : grid0.Coords) : BitVec 1 :=
  let arg0 : BitVec 32 := BitVec.ofNat 32 (i 0).val
  let c0_i32_26 : BitVec 32 := 0#32
  let v58 : BitVec 1 := Scalar.cmpi .eq arg0 c0_i32_26
  let v59 : BitVec 32 := Scalar.extui v58
  let c0_i32_27 : BitVec 32 := 0#32
  let v60 : BitVec 1 := Scalar.cmpi .ne v59 c0_i32_27
  v60

@[reducible] def k0_t1_loop : Scf.Loop 32 :=
  let c0_i32_34 : BitVec 32 := 0#32
  let c32_i32 : BitVec 32 := 32#32
  let v81 : BitVec 32 := Scalar.addi c0_i32_34 c32_i32
  let c1_i32_35 : BitVec 32 := 1#32
  ⟨c0_i32_34, v81, c1_i32_35⟩
def k0_mult3 (k0_t1 : Fin k0_t1_loop.trips) : BitVec 32 :=
  let c0_i32_34 : BitVec 32 := 0#32
  let c1_i32_35 : BitVec 32 := 1#32
  let arg17 : BitVec 32 := Scf.iv c0_i32_34 c1_i32_35 k0_t1
  let c128_i32 : BitVec 32 := 128#32
  let v82 : BitVec 32 := Scalar.muli arg17 c128_i32
  v82
def k0_off1 (k0_t1 : Fin k0_t1_loop.trips) : Fin 2 → Nat :=
  let c0_i32_34 : BitVec 32 := 0#32
  let c1_i32_35 : BitVec 32 := 1#32
  let arg17 : BitVec 32 := Scf.iv c0_i32_34 c1_i32_35 k0_t1
  let c128_i32 : BitVec 32 := 128#32
  let v82 : BitVec 32 := Scalar.muli arg17 c128_i32
  let v83 : BitVec 32 := v82
  let v84 : Index := Scalar.indexCast v83
  let c0_37 : Index := 0#32
  ![v84.toNat, 0]
def k0_off2 (k0_t1 : Fin k0_t1_loop.trips) : Fin 2 → Nat :=
  let c0_i32_34 : BitVec 32 := 0#32
  let c1_i32_35 : BitVec 32 := 1#32
  let arg17 : BitVec 32 := Scf.iv c0_i32_34 c1_i32_35 k0_t1
  let c128_i32 : BitVec 32 := 128#32
  let v82 : BitVec 32 := Scalar.muli arg17 c128_i32
  let v83 : BitVec 32 := v82
  let v98 : Index := Scalar.indexCast v83
  let c0_42 : Index := 0#32
  ![v98.toNat, 0]
def k0_off3 (i : grid0.Coords) : Fin 2 → Nat :=
  let arg0 : BitVec 32 := BitVec.ofNat 32 (i 0).val
  let c16_i32_7 : BitVec 32 := 16#32
  let c0_i32_8 : BitVec 32 := 0#32
  let v21 : BitVec 1 := Scalar.cmpi .eq c16_i32_7 c0_i32_8
  let c1_i32_9 : BitVec 32 := 1#32
  let v22 : BitVec 32 := Scalar.select v21 c1_i32_9 c16_i32_7
  let v23 : BitVec 32 := Scalar.remsi arg0 v22
  let c0_i32_11 : BitVec 32 := 0#32
  let v25 : BitVec 1 := Scalar.cmpi .slt v23 c0_i32_11
  let c0_i32_12 : BitVec 32 := 0#32
  let v26 : BitVec 1 := Scalar.cmpi .slt v22 c0_i32_12
  let v27 : BitVec 1 := Scalar.xori v25 v26
  let c0_i32_10 : BitVec 32 := 0#32
  let v24 : BitVec 1 := Scalar.cmpi .ne v23 c0_i32_10
  let v28 : BitVec 1 := Scalar.andi v27 v24
  let v29 : BitVec 32 := Scalar.addi v23 v22
  let v30 : BitVec 32 := Scalar.select v28 v29 v23
  let c256_i32 : BitVec 32 := 256#32
  let v31 : BitVec 32 := Scalar.muli v30 c256_i32
  let v32 : BitVec 32 := v31
  let v63 : Index := Scalar.indexCast v32
  let c0_29 : Index := 0#32
  ![v63.toNat, 0]
def k0_off4 (i : grid0.Coords) : Fin 2 → Nat :=
  let arg0 : BitVec 32 := BitVec.ofNat 32 (i 0).val
  let c16_i32_7 : BitVec 32 := 16#32
  let c0_i32_8 : BitVec 32 := 0#32
  let v21 : BitVec 1 := Scalar.cmpi .eq c16_i32_7 c0_i32_8
  let c1_i32_9 : BitVec 32 := 1#32
  let v22 : BitVec 32 := Scalar.select v21 c1_i32_9 c16_i32_7
  let v23 : BitVec 32 := Scalar.remsi arg0 v22
  let c0_i32_11 : BitVec 32 := 0#32
  let v25 : BitVec 1 := Scalar.cmpi .slt v23 c0_i32_11
  let c0_i32_12 : BitVec 32 := 0#32
  let v26 : BitVec 1 := Scalar.cmpi .slt v22 c0_i32_12
  let v27 : BitVec 1 := Scalar.xori v25 v26
  let c0_i32_10 : BitVec 32 := 0#32
  let v24 : BitVec 1 := Scalar.cmpi .ne v23 c0_i32_10
  let v28 : BitVec 1 := Scalar.andi v27 v24
  let v29 : BitVec 32 := Scalar.addi v23 v22
  let v30 : BitVec 32 := Scalar.select v28 v29 v23
  let c256_i32 : BitVec 32 := 256#32
  let v31 : BitVec 32 := Scalar.muli v30 c256_i32
  let v32 : BitVec 32 := v31
  let v71 : Index := Scalar.indexCast v32
  let c0_32 : Index := 0#32
  ![v71.toNat, 0]
def k0_cond3 (i : grid0.Coords) : BitVec 1 :=
  let arg0 : BitVec 32 := BitVec.ofNat 32 (i 0).val
  let c16_i32 : BitVec 32 := 16#32
  let v0 : BitVec 1 := Scalar.cmpi .slt arg0 c16_i32
  let c0_i32_6 : BitVec 32 := 0#32
  let c1_i32_5 : BitVec 32 := 1#32
  let c16_i32_0 : BitVec 32 := 16#32
  let v1 : BitVec 32 := Scalar.subi arg0 c16_i32_0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c4_i32 : BitVec 32 := 4#32
  let c0_i32_2 : BitVec 32 := 0#32
  let v8 : BitVec 1 := Scalar.cmpi .sgt c4_i32 c0_i32_2
  let v9 : BitVec 32 := Scalar.extui v8
  let c0_i32_3 : BitVec 32 := 0#32
  let v10 : BitVec 1 := Scalar.cmpi .slt c4_i32 c0_i32_3
  let v11 : BitVec 32 := Scalar.extui v10
  let v12 : BitVec 32 := Scalar.subi v9 v11
  let v13 : BitVec 1 := Scalar.cmpi .ne v7 v12
  let v14 : BitVec 32 := Scalar.remsi v1 c4_i32
  let c0_i32_4 : BitVec 32 := 0#32
  let v15 : BitVec 1 := Scalar.cmpi .ne v14 c0_i32_4
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let v19 : BitVec 32 := Scalar.addi c1_i32_5 v18
  let v20 : BitVec 32 := Scalar.select v0 c0_i32_6 v19
  let c1_i32_22 : BitVec 32 := 1#32
  let v49 : BitVec 1 := Scalar.cmpi .eq v20 c1_i32_22
  let v50 : BitVec 32 := Scalar.extui v49
  let c0_i32_23 : BitVec 32 := 0#32
  let v51 : BitVec 1 := Scalar.cmpi .ne v50 c0_i32_23
  v51

def k0_off5 (i : grid0.Coords) : Fin 2 → Nat :=
  let arg0 : BitVec 32 := BitVec.ofNat 32 (i 0).val
  let c16_i32_13 : BitVec 32 := 16#32
  let v33 : BitVec 32 := Scalar.subi arg0 c16_i32_13
  let c4_i32_14 : BitVec 32 := 4#32
  let c0_i32_15 : BitVec 32 := 0#32
  let v34 : BitVec 1 := Scalar.cmpi .eq c4_i32_14 c0_i32_15
  let c1_i32_16 : BitVec 32 := 1#32
  let v35 : BitVec 32 := Scalar.select v34 c1_i32_16 c4_i32_14
  let v36 : BitVec 32 := Scalar.remsi v33 v35
  let c0_i32_18 : BitVec 32 := 0#32
  let v38 : BitVec 1 := Scalar.cmpi .slt v36 c0_i32_18
  let c0_i32_19 : BitVec 32 := 0#32
  let v39 : BitVec 1 := Scalar.cmpi .slt v35 c0_i32_19
  let v40 : BitVec 1 := Scalar.xori v38 v39
  let c0_i32_17 : BitVec 32 := 0#32
  let v37 : BitVec 1 := Scalar.cmpi .ne v36 c0_i32_17
  let v41 : BitVec 1 := Scalar.andi v40 v37
  let v42 : BitVec 32 := Scalar.addi v36 v35
  let v43 : BitVec 32 := Scalar.select v41 v42 v36
  let c1024_i32 : BitVec 32 := 1024#32
  let v44 : BitVec 32 := Scalar.muli v43 c1024_i32
  let v45 : BitVec 32 := v44
  let v58 : Index := Scalar.indexCast v45
  let c0 : Index := 0#32
  ![v58.toNat, 0]
def k0_off6 (i : grid0.Coords) : Fin 2 → Nat :=
  let arg0 : BitVec 32 := BitVec.ofNat 32 (i 0).val
  let c16_i32_13 : BitVec 32 := 16#32
  let v33 : BitVec 32 := Scalar.subi arg0 c16_i32_13
  let c4_i32_14 : BitVec 32 := 4#32
  let c0_i32_15 : BitVec 32 := 0#32
  let v34 : BitVec 1 := Scalar.cmpi .eq c4_i32_14 c0_i32_15
  let c1_i32_16 : BitVec 32 := 1#32
  let v35 : BitVec 32 := Scalar.select v34 c1_i32_16 c4_i32_14
  let v36 : BitVec 32 := Scalar.remsi v33 v35
  let c0_i32_18 : BitVec 32 := 0#32
  let v38 : BitVec 1 := Scalar.cmpi .slt v36 c0_i32_18
  let c0_i32_19 : BitVec 32 := 0#32
  let v39 : BitVec 1 := Scalar.cmpi .slt v35 c0_i32_19
  let v40 : BitVec 1 := Scalar.xori v38 v39
  let c0_i32_17 : BitVec 32 := 0#32
  let v37 : BitVec 1 := Scalar.cmpi .ne v36 c0_i32_17
  let v41 : BitVec 1 := Scalar.andi v40 v37
  let v42 : BitVec 32 := Scalar.addi v36 v35
  let v43 : BitVec 32 := Scalar.select v41 v42 v36
  let c1024_i32 : BitVec 32 := 1024#32
  let v44 : BitVec 32 := Scalar.muli v43 c1024_i32
  let v45 : BitVec 32 := v44
  let v62 : Index := Scalar.indexCast v45
  let c0_28 : Index := 0#32
  ![v62.toNat, 0]
def k0_off7 (i : grid0.Coords) : Fin 2 → Nat :=
  let arg0 : BitVec 32 := BitVec.ofNat 32 (i 0).val
  let c16_i32_13 : BitVec 32 := 16#32
  let v33 : BitVec 32 := Scalar.subi arg0 c16_i32_13
  let c4_i32_14 : BitVec 32 := 4#32
  let c0_i32_15 : BitVec 32 := 0#32
  let v34 : BitVec 1 := Scalar.cmpi .eq c4_i32_14 c0_i32_15
  let c1_i32_16 : BitVec 32 := 1#32
  let v35 : BitVec 32 := Scalar.select v34 c1_i32_16 c4_i32_14
  let v36 : BitVec 32 := Scalar.remsi v33 v35
  let c0_i32_18 : BitVec 32 := 0#32
  let v38 : BitVec 1 := Scalar.cmpi .slt v36 c0_i32_18
  let c0_i32_19 : BitVec 32 := 0#32
  let v39 : BitVec 1 := Scalar.cmpi .slt v35 c0_i32_19
  let v40 : BitVec 1 := Scalar.xori v38 v39
  let c0_i32_17 : BitVec 32 := 0#32
  let v37 : BitVec 1 := Scalar.cmpi .ne v36 c0_i32_17
  let v41 : BitVec 1 := Scalar.andi v40 v37
  let v42 : BitVec 32 := Scalar.addi v36 v35
  let v43 : BitVec 32 := Scalar.select v41 v42 v36
  let c1024_i32 : BitVec 32 := 1024#32
  let v44 : BitVec 32 := Scalar.muli v43 c1024_i32
  let v45 : BitVec 32 := v44
  let v90 : Index := Scalar.indexCast v45
  let c0_38 : Index := 0#32
  ![v90.toNat, 0]
def k0_cond4 (i : grid0.Coords) : BitVec 1 :=
  let arg0 : BitVec 32 := BitVec.ofNat 32 (i 0).val
  let c16_i32 : BitVec 32 := 16#32
  let v0 : BitVec 1 := Scalar.cmpi .slt arg0 c16_i32
  let c0_i32_6 : BitVec 32 := 0#32
  let c1_i32_5 : BitVec 32 := 1#32
  let c16_i32_0 : BitVec 32 := 16#32
  let v1 : BitVec 32 := Scalar.subi arg0 c16_i32_0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c4_i32 : BitVec 32 := 4#32
  let c0_i32_2 : BitVec 32 := 0#32
  let v8 : BitVec 1 := Scalar.cmpi .sgt c4_i32 c0_i32_2
  let v9 : BitVec 32 := Scalar.extui v8
  let c0_i32_3 : BitVec 32 := 0#32
  let v10 : BitVec 1 := Scalar.cmpi .slt c4_i32 c0_i32_3
  let v11 : BitVec 32 := Scalar.extui v10
  let v12 : BitVec 32 := Scalar.subi v9 v11
  let v13 : BitVec 1 := Scalar.cmpi .ne v7 v12
  let v14 : BitVec 32 := Scalar.remsi v1 c4_i32
  let c0_i32_4 : BitVec 32 := 0#32
  let v15 : BitVec 1 := Scalar.cmpi .ne v14 c0_i32_4
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let v19 : BitVec 32 := Scalar.addi c1_i32_5 v18
  let v20 : BitVec 32 := Scalar.select v0 c0_i32_6 v19
  let c2_i32 : BitVec 32 := 2#32
  let v52 : BitVec 1 := Scalar.cmpi .eq v20 c2_i32
  let v53 : BitVec 32 := Scalar.extui v52
  let c0_i32_24 : BitVec 32 := 0#32
  let v54 : BitVec 1 := Scalar.cmpi .ne v53 c0_i32_24
  v54

def k0_off8 (i : grid0.Coords) : Fin 2 → Nat :=
  let arg0 : BitVec 32 := BitVec.ofNat 32 (i 0).val
  let c16_i32_13 : BitVec 32 := 16#32
  let v33 : BitVec 32 := Scalar.subi arg0 c16_i32_13
  let c4_i32_14 : BitVec 32 := 4#32
  let c0_i32_15 : BitVec 32 := 0#32
  let v34 : BitVec 1 := Scalar.cmpi .eq c4_i32_14 c0_i32_15
  let c1_i32_16 : BitVec 32 := 1#32
  let v35 : BitVec 32 := Scalar.select v34 c1_i32_16 c4_i32_14
  let v36 : BitVec 32 := Scalar.remsi v33 v35
  let c0_i32_18 : BitVec 32 := 0#32
  let v38 : BitVec 1 := Scalar.cmpi .slt v36 c0_i32_18
  let c0_i32_19 : BitVec 32 := 0#32
  let v39 : BitVec 1 := Scalar.cmpi .slt v35 c0_i32_19
  let v40 : BitVec 1 := Scalar.xori v38 v39
  let c0_i32_17 : BitVec 32 := 0#32
  let v37 : BitVec 1 := Scalar.cmpi .ne v36 c0_i32_17
  let v41 : BitVec 1 := Scalar.andi v40 v37
  let v42 : BitVec 32 := Scalar.addi v36 v35
  let v43 : BitVec 32 := Scalar.select v41 v42 v36
  let c1024_i32 : BitVec 32 := 1024#32
  let v44 : BitVec 32 := Scalar.muli v43 c1024_i32
  let v45 : BitVec 32 := v44
  let v58 : Index := Scalar.indexCast v45
  let c0 : Index := 0#32
  ![v58.toNat, 0]
def k0_off9 (i : grid0.Coords) : Fin 2 → Nat :=
  let arg0 : BitVec 32 := BitVec.ofNat 32 (i 0).val
  let c16_i32_13 : BitVec 32 := 16#32
  let v33 : BitVec 32 := Scalar.subi arg0 c16_i32_13
  let c4_i32_14 : BitVec 32 := 4#32
  let c0_i32_15 : BitVec 32 := 0#32
  let v34 : BitVec 1 := Scalar.cmpi .eq c4_i32_14 c0_i32_15
  let c1_i32_16 : BitVec 32 := 1#32
  let v35 : BitVec 32 := Scalar.select v34 c1_i32_16 c4_i32_14
  let v36 : BitVec 32 := Scalar.remsi v33 v35
  let c0_i32_18 : BitVec 32 := 0#32
  let v38 : BitVec 1 := Scalar.cmpi .slt v36 c0_i32_18
  let c0_i32_19 : BitVec 32 := 0#32
  let v39 : BitVec 1 := Scalar.cmpi .slt v35 c0_i32_19
  let v40 : BitVec 1 := Scalar.xori v38 v39
  let c0_i32_17 : BitVec 32 := 0#32
  let v37 : BitVec 1 := Scalar.cmpi .ne v36 c0_i32_17
  let v41 : BitVec 1 := Scalar.andi v40 v37
  let v42 : BitVec 32 := Scalar.addi v36 v35
  let v43 : BitVec 32 := Scalar.select v41 v42 v36
  let c1024_i32 : BitVec 32 := 1024#32
  let v44 : BitVec 32 := Scalar.muli v43 c1024_i32
  let v45 : BitVec 32 := v44
  let v64 : Index := Scalar.indexCast v45
  let c0_28 : Index := 0#32
  ![v64.toNat, 0]
def k0_cond5 (i : grid0.Coords) : BitVec 1 :=
  let arg0 : BitVec 32 := BitVec.ofNat 32 (i 0).val
  let c16_i32 : BitVec 32 := 16#32
  let v0 : BitVec 1 := Scalar.cmpi .slt arg0 c16_i32
  let c0_i32_6 : BitVec 32 := 0#32
  let c1_i32_5 : BitVec 32 := 1#32
  let c16_i32_0 : BitVec 32 := 16#32
  let v1 : BitVec 32 := Scalar.subi arg0 c16_i32_0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c4_i32 : BitVec 32 := 4#32
  let c0_i32_2 : BitVec 32 := 0#32
  let v8 : BitVec 1 := Scalar.cmpi .sgt c4_i32 c0_i32_2
  let v9 : BitVec 32 := Scalar.extui v8
  let c0_i32_3 : BitVec 32 := 0#32
  let v10 : BitVec 1 := Scalar.cmpi .slt c4_i32 c0_i32_3
  let v11 : BitVec 32 := Scalar.extui v10
  let v12 : BitVec 32 := Scalar.subi v9 v11
  let v13 : BitVec 1 := Scalar.cmpi .ne v7 v12
  let v14 : BitVec 32 := Scalar.remsi v1 c4_i32
  let c0_i32_4 : BitVec 32 := 0#32
  let v15 : BitVec 1 := Scalar.cmpi .ne v14 c0_i32_4
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let v19 : BitVec 32 := Scalar.addi c1_i32_5 v18
  let v20 : BitVec 32 := Scalar.select v0 c0_i32_6 v19
  let c3_i32 : BitVec 32 := 3#32
  let v55 : BitVec 1 := Scalar.cmpi .eq v20 c3_i32
  let v56 : BitVec 32 := Scalar.extui v55
  let c0_i32_25 : BitVec 32 := 0#32
  let v57 : BitVec 1 := Scalar.cmpi .ne v56 c0_i32_25
  v57

def k0_off10 (i : grid0.Coords) : Fin 2 → Nat :=
  let arg0 : BitVec 32 := BitVec.ofNat 32 (i 0).val
  let c16_i32_13 : BitVec 32 := 16#32
  let v33 : BitVec 32 := Scalar.subi arg0 c16_i32_13
  let c4_i32_14 : BitVec 32 := 4#32
  let c0_i32_15 : BitVec 32 := 0#32
  let v34 : BitVec 1 := Scalar.cmpi .eq c4_i32_14 c0_i32_15
  let c1_i32_16 : BitVec 32 := 1#32
  let v35 : BitVec 32 := Scalar.select v34 c1_i32_16 c4_i32_14
  let v36 : BitVec 32 := Scalar.remsi v33 v35
  let c0_i32_18 : BitVec 32 := 0#32
  let v38 : BitVec 1 := Scalar.cmpi .slt v36 c0_i32_18
  let c0_i32_19 : BitVec 32 := 0#32
  let v39 : BitVec 1 := Scalar.cmpi .slt v35 c0_i32_19
  let v40 : BitVec 1 := Scalar.xori v38 v39
  let c0_i32_17 : BitVec 32 := 0#32
  let v37 : BitVec 1 := Scalar.cmpi .ne v36 c0_i32_17
  let v41 : BitVec 1 := Scalar.andi v40 v37
  let v42 : BitVec 32 := Scalar.addi v36 v35
  let v43 : BitVec 32 := Scalar.select v41 v42 v36
  let c1024_i32 : BitVec 32 := 1024#32
  let v44 : BitVec 32 := Scalar.muli v43 c1024_i32
  let v45 : BitVec 32 := v44
  let v58 : Index := Scalar.indexCast v45
  let c0 : Index := 0#32
  ![v58.toNat, 0]
def k0_off11 (i : grid0.Coords) : Fin 2 → Nat :=
  let arg0 : BitVec 32 := BitVec.ofNat 32 (i 0).val
  let c16_i32_13 : BitVec 32 := 16#32
  let v33 : BitVec 32 := Scalar.subi arg0 c16_i32_13
  let c4_i32_14 : BitVec 32 := 4#32
  let c0_i32_15 : BitVec 32 := 0#32
  let v34 : BitVec 1 := Scalar.cmpi .eq c4_i32_14 c0_i32_15
  let c1_i32_16 : BitVec 32 := 1#32
  let v35 : BitVec 32 := Scalar.select v34 c1_i32_16 c4_i32_14
  let v36 : BitVec 32 := Scalar.remsi v33 v35
  let c0_i32_18 : BitVec 32 := 0#32
  let v38 : BitVec 1 := Scalar.cmpi .slt v36 c0_i32_18
  let c0_i32_19 : BitVec 32 := 0#32
  let v39 : BitVec 1 := Scalar.cmpi .slt v35 c0_i32_19
  let v40 : BitVec 1 := Scalar.xori v38 v39
  let c0_i32_17 : BitVec 32 := 0#32
  let v37 : BitVec 1 := Scalar.cmpi .ne v36 c0_i32_17
  let v41 : BitVec 1 := Scalar.andi v40 v37
  let v42 : BitVec 32 := Scalar.addi v36 v35
  let v43 : BitVec 32 := Scalar.select v41 v42 v36
  let c1024_i32 : BitVec 32 := 1024#32
  let v44 : BitVec 32 := Scalar.muli v43 c1024_i32
  let v45 : BitVec 32 := v44
  let v62 : Index := Scalar.indexCast v45
  let c0_28 : Index := 0#32
  ![v62.toNat, 0]
def cc0_transform_0 (i : grid0.Coords) : Fin 2 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c24_i32 : BitVec 32 := 24#32
  let v0 : BitVec 32 := Scalar.subi arg0 c24_i32
  let c0_i32 : BitVec 32 := 0#32
  let c3_i32 : BitVec 32 := 3#32
  let v1 : BitVec 32 := Scalar.maxsi c0_i32 v0
  let v2 : BitVec 32 := Scalar.minsi c3_i32 v1
  let c0_i32_0 : BitVec 32 := 0#32
  let c0_i32_1 : BitVec 32 := 0#32
  ![v2.toNat, c0_i32_0.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S512x768 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x384 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1024x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![8], ![false]⟩

def k1_cond2 (i : grid1.Coords) : BitVec 1 :=
  let arg0 : BitVec 32 := BitVec.ofNat 32 (i 0).val
  let c7_i32 : BitVec 32 := 7#32
  let v12 : BitVec 1 := Scalar.cmpi .eq arg0 c7_i32
  let v13 : BitVec 32 := Scalar.extui v12
  let c0_i32_8 : BitVec 32 := 0#32
  let v14 : BitVec 1 := Scalar.cmpi .ne v13 c0_i32_8
  v14

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S8192x8 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S8192x512 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x512 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S512x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x10 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x10 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S8x10 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]
-- ==== ReferenceIdeal.lean ====
abbrev S8x4096x64 : Shape := ⟨3, ![8, 4096, 64]⟩
abbrev S4096x4096 : Shape := ⟨2, ![4096, 4096]⟩
abbrev S3x64x32 : Shape := ⟨3, ![3, 64, 32]⟩
abbrev S32 : Shape := ⟨1, ![32]⟩
abbrev S3x32x16 : Shape := ⟨3, ![3, 32, 16]⟩
abbrev S16 : Shape := ⟨1, ![16]⟩
abbrev S65536x512 : Shape := ⟨2, ![65536, 512]⟩
abbrev S512 : Shape := ⟨1, ![512]⟩
abbrev S512x128 : Shape := ⟨2, ![512, 128]⟩
abbrev S128 : Shape := ⟨1, ![128]⟩
abbrev S128x10 : Shape := ⟨2, ![128, 10]⟩
abbrev S10 : Shape := ⟨1, ![10]⟩
abbrev S1x64x32 : Shape := ⟨3, ![1, 64, 32]⟩
abbrev S64x32 : Shape := ⟨2, ![64, 32]⟩
abbrev S8x4096x32 : Shape := ⟨3, ![8, 4096, 32]⟩
abbrev S8x64x4096 : Shape := ⟨3, ![8, 64, 4096]⟩
abbrev S_ : Shape := ⟨0, ![]⟩
abbrev S1x1x32 : Shape := ⟨3, ![1, 1, 32]⟩
abbrev S1x32x16 : Shape := ⟨3, ![1, 32, 16]⟩
abbrev S32x16 : Shape := ⟨2, ![32, 16]⟩
abbrev S8x4096x16 : Shape := ⟨3, ![8, 4096, 16]⟩
abbrev S8x32x4096 : Shape := ⟨3, ![8, 32, 4096]⟩
abbrev S1x1x16 : Shape := ⟨3, ![1, 1, 16]⟩
abbrev S8x65536 : Shape := ⟨2, ![8, 65536]⟩
abbrev S8x512 : Shape := ⟨2, ![8, 512]⟩
abbrev S1x512 : Shape := ⟨2, ![1, 512]⟩
abbrev S8x128 : Shape := ⟨2, ![8, 128]⟩
abbrev S1x128 : Shape := ⟨2, ![1, 128]⟩
abbrev S8x10 : Shape := ⟨2, ![8, 10]⟩
abbrev S1x10 : Shape := ⟨2, ![1, 10]⟩
abbrev S8 : Shape := ⟨1, ![8]⟩
abbrev S8x1 : Shape := ⟨2, ![8, 1]⟩

abbrev nBuf : Space → Nat
  | .hbm => 95
  | .vmem => 0
  | .smem => 0
  | _ => 0

abbrev bufTy : (tb : Table) → Fin (tcTables nBuf tb) → BufTy
  | .hbm, ⟨0, _⟩ => ⟨S8x4096x64, .f32⟩
  | .hbm, ⟨1, _⟩ => ⟨S4096x4096, .f32⟩
  | .hbm, ⟨2, _⟩ => ⟨S3x64x32, .f32⟩
  | .hbm, ⟨3, _⟩ => ⟨S32, .f32⟩
  | .hbm, ⟨4, _⟩ => ⟨S3x32x16, .f32⟩
  | .hbm, ⟨5, _⟩ => ⟨S16, .f32⟩
  | .hbm, ⟨6, _⟩ => ⟨S65536x512, .f32⟩
  | .hbm, ⟨7, _⟩ => ⟨S512, .f32⟩
  | .hbm, ⟨8, _⟩ => ⟨S512x128, .f32⟩
  | .hbm, ⟨9, _⟩ => ⟨S128, .f32⟩
  | .hbm, ⟨10, _⟩ => ⟨S128x10, .f32⟩
  | .hbm, ⟨11, _⟩ => ⟨S10, .f32⟩
  | .hbm, ⟨12, _⟩ => ⟨S1x64x32, .f32⟩
  | .hbm, ⟨13, _⟩ => ⟨S64x32, .f32⟩
  | .hbm, ⟨14, _⟩ => ⟨S8x4096x32, .f32⟩
  | .hbm, ⟨15, _⟩ => ⟨S8x64x4096, .f32⟩
  | .hbm, ⟨16, _⟩ => ⟨S8x4096x64, .f32⟩
  | .hbm, ⟨17, _⟩ => ⟨S1x64x32, .f32⟩
  | .hbm, ⟨18, _⟩ => ⟨S64x32, .f32⟩
  | .hbm, ⟨19, _⟩ => ⟨S8x4096x32, .f32⟩
  | .hbm, ⟨20, _⟩ => ⟨S8x4096x32, .f32⟩
  | .hbm, ⟨21, _⟩ => ⟨S8x64x4096, .f32⟩
  | .hbm, ⟨22, _⟩ => ⟨S8x4096x64, .f32⟩
  | .hbm, ⟨23, _⟩ => ⟨S_, .f32⟩
  | .hbm, ⟨24, _⟩ => ⟨S8x4096x64, .f32⟩
  | .hbm, ⟨25, _⟩ => ⟨S8x4096x64, .f32⟩
  | .hbm, ⟨26, _⟩ => ⟨S8x4096x64, .f32⟩
  | .hbm, ⟨27, _⟩ => ⟨S1x64x32, .f32⟩
  | .hbm, ⟨28, _⟩ => ⟨S64x32, .f32⟩
  | .hbm, ⟨29, _⟩ => ⟨S8x4096x32, .f32⟩
  | .hbm, ⟨30, _⟩ => ⟨S8x4096x32, .f32⟩
  | .hbm, ⟨31, _⟩ => ⟨S1x1x32, .f32⟩
  | .hbm, ⟨32, _⟩ => ⟨S8x4096x32, .f32⟩
  | .hbm, ⟨33, _⟩ => ⟨S8x4096x32, .f32⟩
  | .hbm, ⟨34, _⟩ => ⟨S_, .f32⟩
  | .hbm, ⟨35, _⟩ => ⟨S8x4096x32, .f32⟩
  | .hbm, ⟨36, _⟩ => ⟨S8x4096x32, .f32⟩
  | .hbm, ⟨37, _⟩ => ⟨S1x32x16, .f32⟩
  | .hbm, ⟨38, _⟩ => ⟨S32x16, .f32⟩
  | .hbm, ⟨39, _⟩ => ⟨S8x4096x16, .f32⟩
  | .hbm, ⟨40, _⟩ => ⟨S8x32x4096, .f32⟩
  | .hbm, ⟨41, _⟩ => ⟨S8x4096x32, .f32⟩
  | .hbm, ⟨42, _⟩ => ⟨S1x32x16, .f32⟩
  | .hbm, ⟨43, _⟩ => ⟨S32x16, .f32⟩
  | .hbm, ⟨44, _⟩ => ⟨S8x4096x16, .f32⟩
  | .hbm, ⟨45, _⟩ => ⟨S8x4096x16, .f32⟩
  | .hbm, ⟨46, _⟩ => ⟨S8x32x4096, .f32⟩
  | .hbm, ⟨47, _⟩ => ⟨S8x4096x32, .f32⟩
  | .hbm, ⟨48, _⟩ => ⟨S_, .f32⟩
  | .hbm, ⟨49, _⟩ => ⟨S8x4096x32, .f32⟩
  | .hbm, ⟨50, _⟩ => ⟨S8x4096x32, .f32⟩
  | .hbm, ⟨51, _⟩ => ⟨S8x4096x32, .f32⟩
  | .hbm, ⟨52, _⟩ => ⟨S1x32x16, .f32⟩
  | .hbm, ⟨53, _⟩ => ⟨S32x16, .f32⟩
  | .hbm, ⟨54, _⟩ => ⟨S8x4096x16, .f32⟩
  | .hbm, ⟨55, _⟩ => ⟨S8x4096x16, .f32⟩
  | .hbm, ⟨56, _⟩ => ⟨S1x1x16, .f32⟩
  | .hbm, ⟨57, _⟩ => ⟨S8x4096x16, .f32⟩
  | .hbm, ⟨58, _⟩ => ⟨S8x4096x16, .f32⟩
  | .hbm, ⟨59, _⟩ => ⟨S_, .f32⟩
  | .hbm, ⟨60, _⟩ => ⟨S8x4096x16, .f32⟩
  | .hbm, ⟨61, _⟩ => ⟨S8x4096x16, .f32⟩
  | .hbm, ⟨62, _⟩ => ⟨S8x65536, .f32⟩
  | .hbm, ⟨63, _⟩ => ⟨S8x512, .f32⟩
  | .hbm, ⟨64, _⟩ => ⟨S1x512, .f32⟩
  | .hbm, ⟨65, _⟩ => ⟨S8x512, .f32⟩
  | .hbm, ⟨66, _⟩ => ⟨S8x512, .f32⟩
  | .hbm, ⟨67, _⟩ => ⟨S_, .f32⟩
  | .hbm, ⟨68, _⟩ => ⟨S8x512, .f32⟩
  | .hbm, ⟨69, _⟩ => ⟨S8x512, .f32⟩
  | .hbm, ⟨70, _⟩ => ⟨S8x128, .f32⟩
  | .hbm, ⟨71, _⟩ => ⟨S1x128, .f32⟩
  | .hbm, ⟨72, _⟩ => ⟨S8x128, .f32⟩
  | .hbm, ⟨73, _⟩ => ⟨S8x128, .f32⟩
  | .hbm, ⟨74, _⟩ => ⟨S_, .f32⟩
  | .hbm, ⟨75, _⟩ => ⟨S8x128, .f32⟩
  | .hbm, ⟨76, _⟩ => ⟨S8x128, .f32⟩
  | .hbm, ⟨77, _⟩ => ⟨S8x10, .f32⟩
  | .hbm, ⟨78, _⟩ => ⟨S1x10, .f32⟩
  | .hbm, ⟨79, _⟩ => ⟨S8x10, .f32⟩
  | .hbm, ⟨80, _⟩ => ⟨S8x10, .f32⟩
  | .hbm, ⟨81, _⟩ => ⟨S_, .f32⟩
  | .hbm, ⟨82, _⟩ => ⟨S8, .f32⟩
  | .hbm, ⟨83, _⟩ => ⟨S_, .f32⟩
  | .hbm, ⟨84, _⟩ => ⟨S8, .f32⟩
  | .hbm, ⟨85, _⟩ => ⟨S8, .f32⟩
  | .hbm, ⟨86, _⟩ => ⟨S8x1, .f32⟩
  | .hbm, ⟨87, _⟩ => ⟨S8x10, .f32⟩
  | .hbm, ⟨88, _⟩ => ⟨S8x10, .f32⟩
  | .hbm, ⟨89, _⟩ => ⟨S8x10, .f32⟩
  | .hbm, ⟨90, _⟩ => ⟨S_, .f32⟩
  | .hbm, ⟨91, _⟩ => ⟨S8, .f32⟩
  | .hbm, ⟨92, _⟩ => ⟨S8x1, .f32⟩
  | .hbm, ⟨93, _⟩ => ⟨S8x10, .f32⟩
  | .hbm, ⟨94, _⟩ => ⟨S8x10, .f32⟩
  | _, _ => ⟨S8x4096x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_call0_cst : Ref sig .tc := ⟨.hbm, 34, rfl⟩
abbrev main_call0_v0 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_cst_0 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_call1_cst : Ref sig .tc := ⟨.hbm, 59, rfl⟩
abbrev main_call1_v0 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_call2_cst : Ref sig .tc := ⟨.hbm, 67, rfl⟩
abbrev main_call2_v0 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_call3_cst : Ref sig .tc := ⟨.hbm, 74, rfl⟩
abbrev main_call3_v0 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_cst_1 : Ref sig .tc := ⟨.hbm, 81, rfl⟩
abbrev main_v59 : Ref sig .tc := ⟨.hbm, 82, rfl⟩
abbrev main_cst_2 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_cst_3 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩

abbrev nD : Nat := 1
abbrev τ : Topo := Topo.v7x

variable {F : FTy → Type} [FloatOps F]
-- ==== Proof.Base.lean ====
/-
  Shared names of the kernel's proof: the resource algebra the two pallas calls are run over.
-/
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Regions
public import Idealize.ShloMosaic.Lib.VecWindow
public import Idealize.ShloMosaic.Lib.Pipeline.ValueKit
public import Idealize.ShloMosaic.Lib.Tactic

@[expose] public section

noncomputable section

namespace Cert.Proof

open Cert.KernelIdeal Cert.KernelIdeal.Gen
open Idealize.ShloMosaic

/-- The pipeline library's own algebra: one copy serves both calls. -/
abbrev UU : Type := UR sig nD τ

/-- The one label context both bodies are run in. -/
abbrev 𝒱₀ : Variants := Variants.none

/-- No core owes another anything: no level is assigned. -/
abbrev L₀ : GSem nD τ sig → Finset Unit := fun _ => ∅
/-- No semaphore has a level. -/
abbrev lv₀ : GSem nD τ sig → Unit → ℕ := fun _ _ => 0

variable {F : FTy → Type} [FloatOps F]

/-- The two calls' proof data as one family. -/
def fam (d0 : (c : Dev nD) → Pipeline.Dat τ (Elt F) Unit ℕ UU ℕ cfg0 c) (d1 : (c : Dev nD) → Pipeline.Dat τ (Elt F) Unit ℕ UU ℕ cfg1 c) :
    (p : Fin 2) → (c : Dev nD) → Pipeline.Dat τ (Elt F) Unit ℕ UU ℕ (cfgs p) c
  | ⟨0, _⟩ => d0
  | ⟨1, _⟩ => d1

end Cert.Proof

end
-- ==== Proof.HeadRun.lean ====
/-
  The second pallas call's body (the dense head), run at one grid point. It keeps an 8×512 accumulator: at the first
  point it is reset, at every point the product of this point's blocks is added, and at the last point the two small
  dense layers and the softmax are applied to it and the result is stored.
-/
module

public import proofs.«01_k».proof.Proof.Base

@[expose] public section

noncomputable section

namespace Cert.Proof.Head

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

variable (c : Dev nD) (i : grid1.Coords)
  (M1 : Memref sig .tc .vmem S8192x8 .f32) (h1 : M1.IsWhole) (M2 : Memref sig .tc .vmem S8192x512 .f32) (h2 : M2.IsWhole)
  (M3 : Memref sig .tc .vmem S1x512 .f32) (h3 : M3.IsWhole) (M4 : Memref sig .tc .vmem S512x128 .f32) (h4 : M4.IsWhole)
  (M5 : Memref sig .tc .vmem S1x128 .f32) (h5 : M5.IsWhole) (M6 : Memref sig .tc .vmem S128x10 .f32) (h6 : M6.IsWhole)
  (M7 : Memref sig .tc .vmem S1x10 .f32) (h7 : M7.IsWhole) (M8 : Memref sig .tc .vmem S8x10 .f32) (h8 : M8.IsWhole)
  (M9 : Memref sig .tc .vmem S8x512 .f32) (h9 : M9.IsWhole)

/-- The whole memref held on core `c` at contents it reads as `X`. -/
abbrev own {sp : Space} {S : Shape} {e : EltTy} (M : Memref sig .tc sp S e) (X : S.Idx → Elt F e) : sProp 𝕄 :=
  owns (c : Thread nD τ) M fullShare X

/-- Away from the first point the body does not reset the accumulator. -/
theorem not_first : ∀ n : Fin 8, n.val ≠ 0 →
    ¬ Scalar.cmpi .ne (Scalar.extui (Scalar.cmpi .eq (BitVec.ofNat 32 n.val) 0#32) : BitVec 32) 0#32 = 1#1 := by decide

/-- Away from the last point the body does not store the result. -/
theorem not_last : ∀ n : Fin 8, n.val ≠ 7 →
    ¬ Scalar.cmpi .ne (Scalar.extui (Scalar.cmpi .eq (BitVec.ofNat 32 n.val) 7#32) : BitVec 32) 0#32 = 1#1 := by decide

/-- At the first point: the accumulator holds the product of the first blocks, whatever it held. -/
theorem run_first (hi : (i 0).val = 0) (x1 : S8192x8.Idx → Elt F .f32) (x2 : S8192x512.Idx → Elt F .f32) (x9 : S8x512.Idx → Elt F .f32)
    (E : Set ℕ) (Q : PUnit → sProp 𝕄) :
    iprop(own c M1 x1 ∗ own c M2 x2 ∗ own c M9 x9
        ∗ (iprop(own c M1 x1 ∗ own c M2 x2 ∗ own c M9 (k1_pay2 (k1_pay1 (F := F)) x1 x2)) -∗ Q ⟨⟩))
      ⊢ wp frame (wpE (defs₀ (F := F)) 𝒱₀ c none) E (cc1__head_body i M1 h1 M2 h2 M3 h3 M4 h4 M5 h5 M6 h6 M7 h7 M8 h8 M9 h9) Q := by
  unfold own owns
  rw [cc1__head_body_eq_skeleton]
  have e1 : Scalar.cmpi .ne (Scalar.extui (Scalar.cmpi .eq (BitVec.ofNat 32 (i 0).val) 0#32) : BitVec 32) 0#32 = 1#1 := by rw [hi]; decide
  have e2 : ¬ k1_cond2 i = 1#1 := by unfold k1_cond2; rw [hi]; decide
  iintro ⟨⟨%f1, %g1, H1⟩, ⟨%f2, %g2, H2⟩, ⟨%f9, %g9, H9⟩, Hk⟩
  unfold cc1__head_body_skel
  sl_exec
  sl_step
  iapply Hk
  isplitl [H1]; · iexists f1; isplitr; · ipureintro; exact g1
                  iexact H1
  isplitl [H2]; · iexists f2; isplitr; · ipureintro; exact g2
                  iexact H2
  iexists _; isplitr; swap; · iexact H9
  ipureintro
  rw [View.read_writes_full, View.readAt_full, View.readAt_full, g1, g2]
  congr 1
  unfold run_first.sl.v3 run_first.sl.H9_1
  exact View.readCov_full _ _ _ _ _

/-- At a point between the first and the last: the product of this point's blocks is added to the accumulator. -/
theorem run_mid (hi : (i 0).val ≠ 0) (hi' : (i 0).val ≠ 7) (x1 : S8192x8.Idx → Elt F .f32) (x2 : S8192x512.Idx → Elt F .f32)
    (x9 : S8x512.Idx → Elt F .f32) (E : Set ℕ) (Q : PUnit → sProp 𝕄) :
    iprop(own c M1 x1 ∗ own c M2 x2 ∗ own c M9 x9
        ∗ (iprop(own c M1 x1 ∗ own c M2 x2 ∗ own c M9 (k1_pay2 x9 x1 x2)) -∗ Q ⟨⟩))
      ⊢ wp frame (wpE (defs₀ (F := F)) 𝒱₀ c none) E (cc1__head_body i M1 h1 M2 h2 M3 h3 M4 h4 M5 h5 M6 h6 M7 h7 M8 h8 M9 h9) Q := by
  unfold own owns
  rw [cc1__head_body_eq_skeleton]
  have e1 : ¬ Scalar.cmpi .ne (Scalar.extui (Scalar.cmpi .eq (BitVec.ofNat 32 (i 0).val) 0#32) : BitVec 32) 0#32 = 1#1 :=
    not_first (i 0) hi
  have e2 : ¬ k1_cond2 i = 1#1 := not_last (i 0) hi'
  iintro ⟨⟨%f1, %g1, H1⟩, ⟨%f2, %g2, H2⟩, ⟨%f9, %g9, H9⟩, Hk⟩
  unfold cc1__head_body_skel
  sl_exec
  sl_step
  iapply Hk
  isplitl [H1]; · iexists f1; isplitr; · ipureintro; exact g1
                  iexact H1
  isplitl [H2]; · iexists f2; isplitr; · ipureintro; exact g2
                  iexact H2
  iexists _; isplitr; swap; · iexact H9
  ipureintro
  rw [View.read_writes_full, View.readAt_full, View.readAt_full, View.readAt_full, g1, g2, g9]

/-- At the last point: the last product is added, and the result is the dense layers and softmax of the sum. -/
theorem run_last (hi : (i 0).val = 7) (x1 : S8192x8.Idx → Elt F .f32) (x2 : S8192x512.Idx → Elt F .f32)
    (x3 : S1x512.Idx → Elt F .f32) (x4 : S512x128.Idx → Elt F .f32) (x5 : S1x128.Idx → Elt F .f32) (x6 : S128x10.Idx → Elt F .f32)
    (x7 : S1x10.Idx → Elt F .f32) (x8 : S8x10.Idx → Elt F .f32)
    (x9 : S8x512.Idx → Elt F .f32) (E : Set ℕ) (Q : PUnit → sProp 𝕄) :
    iprop(own c M1 x1 ∗ own c M2 x2 ∗ own c M3 x3 ∗ own c M4 x4 ∗ own c M5 x5 ∗ own c M6 x6 ∗ own c M7 x7 ∗ own c M8 x8 ∗ own c M9 x9
        ∗ (iprop(own c M1 x1 ∗ own c M2 x2 ∗ own c M3 x3 ∗ own c M4 x4 ∗ own c M5 x5 ∗ own c M6 x6 ∗ own c M7 x7
            ∗ own c M8 (k1_pay3 (k1_pay2 x9 x1 x2) x3 x4 x5 x6 x7) ∗ own c M9 (k1_pay2 x9 x1 x2)) -∗ Q ⟨⟩))
      ⊢ wp frame (wpE (defs₀ (F := F)) 𝒱₀ c none) E (cc1__head_body i M1 h1 M2 h2 M3 h3 M4 h4 M5 h5 M6 h6 M7 h7 M8 h8 M9 h9) Q := by
  unfold own owns
  rw [cc1__head_body_eq_skeleton]
  have e1 : ¬ Scalar.cmpi .ne (Scalar.extui (Scalar.cmpi .eq (BitVec.ofNat 32 (i 0).val) 0#32) : BitVec 32) 0#32 = 1#1 := by
    rw [hi]; decide
  have e2 : k1_cond2 i = 1#1 := by unfold k1_cond2; rw [hi]; decide
  iintro ⟨⟨%f1, %g1, H1⟩, ⟨%f2, %g2, H2⟩, ⟨%f3, %g3, H3⟩, ⟨%f4, %g4, H4⟩, ⟨%f5, %g5, H5⟩, ⟨%f6, %g6, H6⟩, ⟨%f7, %g7, H7⟩, ⟨%f8, %g8, H8⟩, ⟨%f9, %g9, H9⟩, Hk⟩
  unfold cc1__head_body_skel
  sl_exec
  sl_step
  iapply Hk
  have e9 : (k1_pay2 (View.readAt (Elt F) M9.view (Rect.unit ![0, 0] S8x512.size inb_S8x512_S8x512_0_0).toLoadRect f9)
              (View.readAt (Elt F) M1.view (Rect.unit ![0, 0] S8192x8.size inb_S8192x8_S8192x8_0_0).toLoadRect f1)
              (View.readAt (Elt F) M2.view (Rect.unit ![0, 0] S8192x512.size inb_S8192x512_S8192x512_0_0).toLoadRect f2))
      = k1_pay2 x9 x1 x2 := by
    rw [View.readAt_full, View.readAt_full, View.readAt_full, g1, g2, g9]
  isplitl [H1]; · iexists f1; isplitr; · ipureintro; exact g1
                  iexact H1
  isplitl [H2]; · iexists f2; isplitr; · ipureintro; exact g2
                  iexact H2
  isplitl [H3]; · iexists f3; isplitr; · ipureintro; exact g3
                  iexact H3
  isplitl [H4]; · iexists f4; isplitr; · ipureintro; exact g4
                  iexact H4
  isplitl [H5]; · iexists f5; isplitr; · ipureintro; exact g5
                  iexact H5
  isplitl [H6]; · iexists f6; isplitr; · ipureintro; exact g6
                  iexact H6
  isplitl [H7]; · iexists f7; isplitr; · ipureintro; exact g7
                  iexact H7
  isplitl [H8]
  · iexists _; isplitr; swap; · iexact H8
    ipureintro
    rw [View.read_writes_full, View.readAt_full, View.readAt_full, View.readAt_full, View.readAt_full, View.readAt_full, g3, g4, g5, g6, g7]
    have ev : run_last.sl.v15 c M1 M2 M9 f1 f2 f9 = k1_pay2 x9 x1 x2 := by
      unfold run_last.sl.v15 run_last.sl.H9_1
      rw [e9]
      exact View.readCov_full _ _ _ _ _
    rw [ev]
  iexists _; isplitr; swap; · iexact H9
  ipureintro
  unfold run_last.sl.H9_1
  rw [View.read_writes_full, e9]

end Cert.Proof.Head

end
-- ==== Proof.HeadRegion.lean ====
/-
  The second pallas call (the dense head) as a region of the program: what its arrays hold before and after it. The
  invariant between two grid points holds the accumulator at the sum of the block products so far; the result array is
  written once, after the last point.
-/
module

public import proofs.«01_k».proof.Proof.HeadRun
public import Idealize.ShloMosaic.Lib.Pipeline.Regions

@[expose] public section

noncomputable section

namespace Cert.Proof.Head

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)

variable {F : FTy → Type} [FloatOps F]

local notation "𝕄" => MT nD τ sig Unit (Elt F) ℕ UU ℕ

variable (V : (c : Dev nD) → (b : Ref sig .tc) → Buf (Elt F) ((c : Thread nD τ).loc b))

/-- The block of the reshaped graph features that the fetch of point `t` reads. -/
abbrev blk0 (c : Dev nD) (t : Fin cfg1.N) : S8192x8.Idx → Elt F .f32 :=
  ((cfg1.win 0).blk t).view.read (Elt F) (V c (Pipeline.arrRef spec1 0))
/-- The block of the large weight that the fetch of point `t` reads. -/
abbrev blk1 (c : Dev nD) (t : Fin cfg1.N) : S8192x512.Idx → Elt F .f32 :=
  ((cfg1.win 1).blk t).view.read (Elt F) (V c (Pipeline.arrRef spec1 1))
/-- The block of the first bias that the fetch of point `t` reads. -/
abbrev blk2 (c : Dev nD) (t : Fin cfg1.N) : S1x512.Idx → Elt F .f32 :=
  ((cfg1.win 2).blk t).view.read (Elt F) (V c (Pipeline.arrRef spec1 2))
/-- The block of the second weight that the fetch of point `t` reads. -/
abbrev blk3 (c : Dev nD) (t : Fin cfg1.N) : S512x128.Idx → Elt F .f32 :=
  ((cfg1.win 3).blk t).view.read (Elt F) (V c (Pipeline.arrRef spec1 3))
/-- The block of the second bias that the fetch of point `t` reads. -/
abbrev blk4 (c : Dev nD) (t : Fin cfg1.N) : S1x128.Idx → Elt F .f32 :=
  ((cfg1.win 4).blk t).view.read (Elt F) (V c (Pipeline.arrRef spec1 4))
/-- The block of the third weight that the fetch of point `t` reads. -/
abbrev blk5 (c : Dev nD) (t : Fin cfg1.N) : S128x10.Idx → Elt F .f32 :=
  ((cfg1.win 5).blk t).view.read (Elt F) (V c (Pipeline.arrRef spec1 5))
/-- The block of the third bias that the fetch of point `t` reads. -/
abbrev blk6 (c : Dev nD) (t : Fin cfg1.N) : S1x10.Idx → Elt F .f32 :=
  ((cfg1.win 6).blk t).view.read (Elt F) (V c (Pipeline.arrRef spec1 6))

/-- The grid point of number `n` (counted round the grid). -/
abbrev pt (n : ℕ) : Fin cfg1.N := ⟨n % 8, by rw [show cfg1.N = 8 from N_1]; omega⟩

/-- The accumulator after point `n`. -/
def acc (c : Dev nD) : ℕ → S8x512.Idx → Elt F .f32
  | 0 => k1_pay2 (k1_pay1 (F := F)) (blk0 V c (pt 0)) (blk1 V c (pt 0))
  | n + 1 => k1_pay2 (acc c n) (blk0 V c (pt (n + 1))) (blk1 V c (pt (n + 1)))

/-- The result: the dense layers and the softmax over the finished accumulator. -/
def out (c : Dev nD) : S8x10.Idx → Elt F .f32 :=
  k1_pay3 (acc V c 7) (blk2 V c (pt 7)) (blk3 V c (pt 7)) (blk4 V c (pt 7)) (blk5 V c (pt 7)) (blk6 V c (pt 7))

/-- The accumulator's buffer at something. -/
abbrev scratch (c : Dev nD) : sProp 𝕄 :=
  iprop(∃ f : Buf (Elt F) ((c : Thread nD τ).loc cc1_scratch0), ((c : Thread nD τ).loc cc1_scratch0) ↦{fullShare} f)

/-- The other scoped buffers, as what completes the accumulator's to all of them. -/
abbrev others (c : Dev nD) : sProp 𝕄 :=
  iprop(scratch (F := F) c -∗ Pipeline.scopedRest (Ix := Unit) (Name := ℕ) (U := UU) (Lvl := ℕ) (Val := Elt F) spec1 c)

/-- What holds of the accumulator before point `n`: after the first point, the sum of the products so far. -/
abbrev accOk (c : Dev nD) (n : ℕ) (X : S8x512.Idx → Elt F .f32) : Prop := ∀ k, n = k + 1 → X = acc V c k

/-- The invariant before point `n`. -/
def inv (c : Dev nD) (n : ℕ) : sProp 𝕄 :=
  iprop((∃ X, ⌜accOk V c n X⌝ ∗ owns (c : Thread nD τ) (Memref.whole cc1_scratch0) fullShare X) ∗ others c)

/-- The scoped buffers the call does not stage, apart: the accumulator's and the others. -/
theorem scoped_split (c : Dev nD) :
    (Pipeline.scopedRest (Ix := Unit) (Name := ℕ) (U := UU) (Lvl := ℕ) (Val := Elt F) spec1 c : sProp 𝕄)
      ⊢ iprop(scratch c ∗ others c) := by
  unfold others
  rw [scopedRest1_eq]
  iintro ⟨H1, H2, H3, H4, H5, H6, H7, H8, H9, H10, H11, H12, H13, H14, H15, H16, H17, H18, H19⟩
  isplitl [H19]; · iexact H19
  iintro H
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  iexact H

/-- The proof data of the call: the arrays at the entry valuation; each input's buffer left at its block, the result's
    at the head's output; nothing owed. -/
def dat (c : Dev nD) : Dat τ (Elt F) Unit ℕ UU ℕ cfg1 c where
  A w := V c (Pipeline.arrRef spec1 w)
  after w t := match w with
    | ⟨0, _⟩ => blk0 V c t
    | ⟨1, _⟩ => blk1 V c t
    | ⟨2, _⟩ => blk2 V c t
    | ⟨3, _⟩ => blk3 V c t
    | ⟨4, _⟩ => blk4 V c t
    | ⟨5, _⟩ => blk5 V c t
    | ⟨6, _⟩ => blk6 V c t
    | ⟨7, _⟩ => out V c
  Φ t := inv V c t.val
  q _ := fullShare
  owed _ := 0

/-- An input's buffer holds its block when the body runs. -/
theorem before0 (c : Dev nD) (t : Fin cfg1.N) (d) : (dat V c).before 0 t d = blk0 V c t :=
  (dat V c).before_in_eq_fetched 0 rfl (fun _ => rfl) (fun _ _ _ => rfl) (fun _ => rfl) t d
/-- The same of input 1. -/
theorem before1 (c : Dev nD) (t : Fin cfg1.N) (d) : (dat V c).before 1 t d = blk1 V c t :=
  (dat V c).before_in_eq_fetched 1 rfl (fun _ => rfl) (fun _ _ _ => rfl) (fun _ => rfl) t d
/-- The same of input 2. -/
theorem before2 (c : Dev nD) (t : Fin cfg1.N) (d) : (dat V c).before 2 t d = blk2 V c t :=
  (dat V c).before_in_eq_fetched 2 rfl (fun _ => rfl) (fun _ _ _ => rfl) (fun _ => rfl) t d
/-- The same of input 3. -/
theorem before3 (c : Dev nD) (t : Fin cfg1.N) (d) : (dat V c).before 3 t d = blk3 V c t :=
  (dat V c).before_in_eq_fetched 3 rfl (fun _ => rfl) (fun _ _ _ => rfl) (fun _ => rfl) t d
/-- The same of input 4. -/
theorem before4 (c : Dev nD) (t : Fin cfg1.N) (d) : (dat V c).before 4 t d = blk4 V c t :=
  (dat V c).before_in_eq_fetched 4 rfl (fun _ => rfl) (fun _ _ _ => rfl) (fun _ => rfl) t d
/-- The same of input 5. -/
theorem before5 (c : Dev nD) (t : Fin cfg1.N) (d) : (dat V c).before 5 t d = blk5 V c t :=
  (dat V c).before_in_eq_fetched 5 rfl (fun _ => rfl) (fun _ _ _ => rfl) (fun _ => rfl) t d
/-- The same of input 6. -/
theorem before6 (c : Dev nD) (t : Fin cfg1.N) (d) : (dat V c).before 6 t d = blk6 V c t :=
  (dat V c).before_in_eq_fetched 6 rfl (fun _ => rfl) (fun _ _ _ => rfl) (fun _ => rfl) t d

/-- The grid's only coordinate at point `t` is `t`. -/
theorem coord (t : Fin cfg1.N) : (grid1.coords t 0).val = t.val :=
  (by decide +kernel : ∀ t : Fin grid1.N, (grid1.coords t 0).val = t.val) t

/-- The result's window is idle exactly before the last point. -/
theorem idle_iff (t : Fin cfg1.N) : cfg1.idle 7 (cfg1.grid.coords t) = decide (t.val ≠ 7) :=
  (by decide +kernel : ∀ t : Fin grid1.N, idle1 7 (grid1.coords t) = decide (t.val ≠ 7)) t

/-- An input's window is never idle. -/
theorem live (w : Fin 8) (hw : w ≠ 7) (i) : cfg1.idle w i = false := by
  fin_cases w <;> first | rfl | exact absurd rfl hw

set_option maxRecDepth 4096 in
/-- The body obligation. -/
theorem body_obligation (c : Dev nD) : BodyObligation (dat V c) (defs₀ (F := F)) 𝒱₀ () Set.univ := fun t => by
  have ht : t.val < 8 := lt_of_lt_of_eq t.isLt N_1
  have hpt : pt t.val = t := Fin.ext (Nat.mod_eq_of_lt ht)
  rw [bigSep_W1, bigSep_W1]
  simp only []
  rw [show (dat V c).Φ t.castSucc = inv V c t.val from rfl, show (dat V c).Φ t.succ = inv V c (t.val + 1) from rfl,
    show (dat V c).owesAt () t.succ = (dat V c).owesAt () t.castSucc from rfl]
  simp only [before0, before1, before2, before3, before4, before5, before6]
  rw [show defs₀ (F := F) Proc.tc 1 (t, cfg1.slots t) = bodyAt1 t from rfl]
  unfold bodyAt1
  by_cases h7 : t.val = 7
  · rw [show idle1 7 (grid1.coords t) = false from (idle_iff t).trans (by simp [h7])]
    simp only []
    unfold inv
    iintro ⟨⟨⟨%X, %hX, H9⟩, Hr⟩, Howes, ⟨%d0, H0⟩, ⟨%d1, H1⟩, ⟨%d2, H2⟩, ⟨%d3, H3⟩, ⟨%d4, H4⟩, ⟨%d5, H5⟩, ⟨%d6, H6⟩, ⟨%d7, H7⟩⟩
    have hX' : k1_pay2 X (blk0 V c t) (blk1 V c t) = acc V c 7 := by
      rw [hX 6 h7, ← hpt, h7]; rfl
    iapply (run_last c (grid1.coords t) _ _ _ _ _ _ _ _ _ _ _ _ _ _ _ _ _ _ ((coord t).trans h7)
      (blk0 V c t) (blk1 V c t) (blk2 V c t) (blk3 V c t) (blk4 V c t) (blk5 V c t) (blk6 V c t) _ X Set.univ _)
    unfold own
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H9]; · iexact H9
    iintro ⟨H0, H1, H2, H3, H4, H5, H6, H7, H9⟩
    isplitl [H9 Hr]
    · isplitl [H9]
      · iexists _; isplitr; swap; · iexact H9
        ipureintro; intro k hk
        obtain rfl : k = 7 := by omega
        exact hX'
      iexact Hr
    isplitl [Howes]; · iexact Howes
    isplitl [H0]; · iexact H0
    isplitl [H1]; · iexact H1
    isplitl [H2]; · iexact H2
    isplitl [H3]; · iexact H3
    isplitl [H4]; · iexact H4
    isplitl [H5]; · iexact H5
    isplitl [H6]; · iexact H6
    have e : k1_pay3 (k1_pay2 X (blk0 V c t) (blk1 V c t)) (blk2 V c t) (blk3 V c t) (blk4 V c t) (blk5 V c t) (blk6 V c t) = (dat V c).after 7 t := by
      rw [hX', ← hpt, h7]; rfl
    rw [← e]
    iexact H7
  · rw [show idle1 7 (grid1.coords t) = true from (idle_iff t).trans (by simp [h7]),
      show (win1 7).flush t = false from by
        have := flush1_7 t
        rw [Nat.mod_eq_of_lt ht] at this
        exact Bool.eq_false_iff.mpr fun h => h7 (this.mp h)]
    simp only []
    unfold inv
    iintro ⟨⟨⟨%X, %hX, H9⟩, Hr⟩, Howes, ⟨%d0, H0⟩, ⟨%d1, H1⟩, ⟨%d2, H2⟩, ⟨%d3, H3⟩, ⟨%d4, H4⟩, ⟨%d5, H5⟩, ⟨%d6, H6⟩, H7⟩
    by_cases h0 : t.val = 0
    · iapply (run_first c (grid1.coords t) _ _ _ _ _ _ _ _ _ _ _ _ _ _ _ _ _ _ ((coord t).trans h0)
        (blk0 V c t) (blk1 V c t) X Set.univ _)
      unfold own
      isplitl [H0]; · iexact H0
      isplitl [H1]; · iexact H1
      isplitl [H9]; · iexact H9
      iintro ⟨H0, H1, H9⟩
      isplitl [H9 Hr]
      · isplitl [H9]
        · iexists _; isplitr; swap; · iexact H9
          ipureintro; intro k hk
          obtain rfl : k = 0 := by omega
          rw [← hpt, h0]; rfl
        iexact Hr
      isplitl [Howes]; · iexact Howes
      isplitl [H0]; · iexact H0
      isplitl [H1]; · iexact H1
      isplitl [H2]; · iexact H2
      isplitl [H3]; · iexact H3
      isplitl [H4]; · iexact H4
      isplitl [H5]; · iexact H5
      isplitl [H6]; · iexact H6
      iexact H7
    · iapply (run_mid c (grid1.coords t) _ _ _ _ _ _ _ _ _ _ _ _ _ _ _ _ _ _ (fun h => h0 ((coord t).symm.trans h)) (fun h => h7 ((coord t).symm.trans h))
        (blk0 V c t) (blk1 V c t) X Set.univ _)
      unfold own
      isplitl [H0]; · iexact H0
      isplitl [H1]; · iexact H1
      isplitl [H9]; · iexact H9
      iintro ⟨H0, H1, H9⟩
      isplitl [H9 Hr]
      · isplitl [H9]
        · iexists _; isplitr; swap; · iexact H9
          ipureintro; intro k hk
          obtain rfl : t.val = k := by omega
          obtain ⟨n, hn⟩ : ∃ n, t.val = n + 1 := ⟨t.val - 1, by omega⟩
          have e : ∀ t' : Fin cfg1.N, t' = pt (n + 1) → k1_pay2 (acc V c n) (blk0 V c t') (blk1 V c t') = acc V c (n + 1) := by
            rintro _ rfl; rfl
          rw [hX n hn, e t (by rw [← hn, hpt]), hn]
        iexact Hr
      isplitl [Howes]; · iexact Howes
      isplitl [H0]; · iexact H0
      isplitl [H1]; · iexact H1
      isplitl [H2]; · iexact H2
      isplitl [H3]; · iexact H3
      isplitl [H4]; · iexact H4
      isplitl [H5]; · iexact H5
      isplitl [H6]; · iexact H6
      iexact H7

/-! ## The region over the thread state -/

variable (W W' : Dev nD → Valuation τ sig (Elt F))
variable (d0 : (c : Dev nD) → Dat τ (Elt F) Unit ℕ UU ℕ cfg0 c)

/-- The result's array after the region. -/
abbrev result (c : Dev nD) : Buf (Elt F) ((c : Thread nD τ).loc main_v94) := (dat (fun c b => W c b) c).arrAt 7 cfg1.N

/-- The core's account of what it owes: nothing. -/
abbrev quiet (c : Dev nD) : sProp 𝕄 := iprop(∃ o, owes (c : Thread nD τ) (0 : CellTallies nD τ sig Unit) o)

set_option maxHeartbeats 1000000 in
/-- After the last point each array holds what the valuation `W'` says: an input's what it held, the result's the result. -/
theorem arrays_end (hout : ∀ c, W' c main_v94 = result W c) (hne : ∀ c (b : Ref sig .tc), b ≠ main_v94 → W' c b = W c b)
    (c : Dev nD) (w : Fin cfg1.W) : (dat (fun c b => W c b) c).arrAt w cfg1.N = W' c (Pipeline.arrRef spec1 w) := by
  fin_cases w
  · exact ((dat (fun c b => W c b) c).arrAt_in 0 rfl _).trans (hne c main_v90 (by decide)).symm
  · exact ((dat (fun c b => W c b) c).arrAt_in 1 rfl _).trans (hne c main_arg6 (by decide)).symm
  · exact ((dat (fun c b => W c b) c).arrAt_in 2 rfl _).trans (hne c main_v91 (by decide)).symm
  · exact ((dat (fun c b => W c b) c).arrAt_in 3 rfl _).trans (hne c main_arg8 (by decide)).symm
  · exact ((dat (fun c b => W c b) c).arrAt_in 4 rfl _).trans (hne c main_v92 (by decide)).symm
  · exact ((dat (fun c b => W c b) c).arrAt_in 5 rfl _).trans (hne c main_arg10 (by decide)).symm
  · exact ((dat (fun c b => W c b) c).arrAt_in 6 rfl _).trans (hne c main_v93 (by decide)).symm
  · exact (hout c).symm

set_option backward.isDefEq.respectTransparency.types false in
/-- The head's region: entered with every unscoped buffer at `W`, left with them at `W'`, which is `W` but for the
    result's array. -/
def reg (hout : ∀ c, W' c main_v94 = result W c) (hne : ∀ c (b : Ref sig .tc), b ≠ main_v94 → W' c b = W c b) :
    Pipeline.RegionSeg (pcfgs (F := F)) adm (fam d0 (dat fun c b => W c b)) () defs₀ 𝒱₀ L₀ lv₀ 1 where
  win := (launch1).win.to₀
  block_pos := (launch1).block_pos
  stage_whole := (launch1).stage_whole
  K := PEmpty
  osem k := k.elim
  ho := Pipeline.OwnSemFacts.none _
  hbody c := (body_obligation (fun c b => W c b) c).loose
  hwaits := Pipeline.hwaits_of_owed_zero _ _ _ _ L₀ lv₀ 1 fun _ _ => rfl
  pre c := iprop(StableHlo.held (c : Thread nD τ) (Pipeline.ucRefs τ sig) (W c) ∗ quiet c)
  post c := iprop(StableHlo.held (c : Thread nD τ) (Pipeline.ucRefs τ sig) (W' c) ∗ quiet c)
  X _ := BI.emp
  Y _ := BI.emp
  Z c := Pipeline.unscopedRest (Ix := Unit) (Name := ℕ) (U := UU) (Lvl := ℕ) spec1 c (fun b => W c b)
  hentry c := by
    rw [Pipeline.ownSems0_none, ← Pipeline.unscopedBufs_held]
    have hsplit := Pipeline.arrays_of_unscopedBufs (p := 1) (pcfgs (F := F)) adm (fam d0 (dat fun c b => W c b)) (launch1).win (launch1).arr_whole c
      ((fam d0 (dat fun c b => W c b) 1 c).share_full fun _ => rfl) (fun b => W c b) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%o, HO⟩; iexists o; isplitr; · ipureintro; exact fun _ _ => Or.inl trivial
      iexact HO
    isplitr; · iempintro
    iexact Hrest
  hin c := by
    rw [show (fam d0 (dat fun c b => W c b) 1 c).Φ 0 = inv (fun c b => W c b) c 0 from rfl]
    iintro ⟨-, -, Hr⟩
    ihave H := scoped_split c $$ Hr
    unfold inv
    icases H with ⟨⟨%f, Hs⟩, Ho⟩
    isplitl [Hs]
    · iexists f
      isplitr; · ipureintro; intro k hk; omega
      rw [owns_whole]; iexact Hs
    iexact Ho
  hout c := by
    rw [Pipeline.ownSems0_none, show (fam d0 (dat fun c b => W c b) 1 c).Φ (Fin.last _) = inv (fun c b => W c b) c 8 from rfl]
    unfold inv
    iintro ⟨⟨%X, -, Hs⟩, Ho⟩
    isplitr; · iempintro
    isplitr; · iempintro
    iapply Ho
    iexists X
    rw [← owns_whole]; iexact Hs
  hexit c := by
    rw [← Pipeline.unscopedBufs_held]
    have hjoin := Pipeline.unscopedBufs_of_arrays (p := 1) (pcfgs (F := F)) adm (Ix := Unit) (Name := ℕ) (U := UU) (Lvl := ℕ) (launch1).win (launch1).arr_whole c
      (fam d0 (dat fun c b => W c b)) ((fam d0 (dat fun c b => W c b) 1 c).share_full fun _ => rfl) (fun b => W c b) (fun b => W' c b)
      ((fam d0 (dat fun c b => W c b) 1 c).arrAt · cfg1.N)
      (arrays_end W W' hout hne c)
      (fun b hb => hne c b fun h => hb (h ▸ Finset.mem_image.mpr ⟨7, Finset.mem_univ _, rfl⟩))
    iintro ⟨Ha, HO, -, Hrest⟩
    imodintro
    isplitl [Ha Hrest]
    · iapply hjoin; isplitl [Ha] <;> iassumption
    unfold Pipeline.Dat.owesAt Pipeline.owesWithin
    icases HO with ⟨%o, -, HO⟩; iexists o; iexact HO

end Cert.Proof.Head

end
-- ==== Proof.Rows.lean ====
/-
  Rows of a matrix. A kernel that fills a large matrix block of rows by block of rows is described by three functions:
  the rows read at an offset (`take`), the matrix with some rows replaced (`putRows`), and the matrix whose blocks of rows
  are given by a function of the block number (`stack`). Filling in order from the top makes more and more of the matrix
  agree with the stack (`upto`), until all of it does.
-/
module

public import Idealize.ShloMosaic.Lib.VecWindow
public import Idealize.ShloMosaic.Lib.ValueIdxCore

@[expose] public section

noncomputable section

namespace Cert.Proof

open Idealize.ShloMosaic Idealize.ShloMosaic.ValueIdx

variable {α : Type} {R C : ℕ}

/-- The shape of a matrix of `R` rows and `C` columns. -/
abbrev Mat (R C : ℕ) : Shape := ⟨2, ![R, C]⟩

/-- The `B` rows of `x` from row `o` on. -/
def take (B : ℕ) [NeZero R] (x : (Mat R C).Idx → α) (o : ℕ) : (Mat B C).Idx → α :=
  fun z => x (ix2 (Fin.ofNat R (o + (z 0).val)) (z 1))

/-- `x` with the rows from `o` on replaced by `w`. -/
def putRows {B : ℕ} (x : (Mat R C).Idx → α) (o : ℕ) (w : (Mat B C).Idx → α) : (Mat R C).Idx → α :=
  fun y => if h : o ≤ (y 0).val ∧ (y 0).val < o + B then w (ix2 ⟨(y 0).val - o, by omega⟩ (y 1)) else x y

/-- The matrix whose block of rows number `b`, `B` rows high, is `g b`. -/
def stack (B : ℕ) [NeZero B] (g : ℕ → (Mat B C).Idx → α) : (Mat R C).Idx → α :=
  fun y => g ((y 0).val / B) (ix2 (Fin.ofNat B (y 0).val) (y 1))

/-- `x` and `T` have the same first `n` rows. -/
def upto (n : ℕ) (x T : (Mat R C).Idx → α) : Prop := ∀ y, (y 0).val < n → x y = T y

/-- Any two matrices agree on no rows. -/
theorem upto_zero (x T : (Mat R C).Idx → α) : upto 0 x T := fun _ h => absurd h (Nat.not_lt_zero _)

/-- Matrices with the same first `n` rows and no others are the same. -/
theorem eq_of_upto {n : ℕ} (hn : R ≤ n) {x T : (Mat R C).Idx → α} (h : upto n x T) : x = T :=
  funext fun y => h y (lt_of_lt_of_le (idx2_lt0 y) hn)

/-- A matrix agrees with itself. -/
theorem upto_self (n : ℕ) (x : (Mat R C).Idx → α) : upto n x x := fun _ _ => rfl

/-- Matrices that agree on more rows agree on fewer. -/
theorem upto_mono {m n : ℕ} (h : m ≤ n) {x T : (Mat R C).Idx → α} (hx : upto n x T) : upto m x T :=
  fun y hy => hx y (lt_of_lt_of_le hy h)

/-- Putting block number `k` extends the agreement with the stack by one block. -/
theorem upto_put {B : ℕ} [NeZero B] (g : ℕ → (Mat B C).Idx → α) {k : ℕ} {x : (Mat R C).Idx → α}
    (hx : upto (B * k) x (stack B g)) : upto (B * (k + 1)) (putRows x (B * k) (g k)) (stack B g) := by
  intro y hy
  rw [Nat.mul_succ] at hy
  unfold putRows
  by_cases h : B * k ≤ (y 0).val
  · rw [dif_pos ⟨h, hy⟩]
    have hB : 0 < B := Nat.pos_of_ne_zero (NeZero.ne B)
    have e1 : (y 0).val / B = k := by
      rw [Nat.div_eq_iff hB]
      constructor
      · rw [Nat.mul_comm]; exact h
      · rw [Nat.mul_comm]; omega
    have e2 : (y 0).val % B = (y 0).val - B * k := by
      have := Nat.div_add_mod (y 0).val B
      rw [e1] at this; omega
    unfold stack
    rw [e1]
    exact congrArg (fun a => g k (ix2 a (y 1))) (Fin.ext e2.symm)
  · rw [dif_neg (fun h' => h h'.1)]
    exact hx y (by omega)

/-- A window of full rows is the rows taken. -/
theorem window_rows {B : ℕ} [NeZero R] (x : (Mat R C).Idx → α) (o : ℕ)
    (inb : ∀ a, (![o, 0] : Fin 2 → ℕ) a + (Mat B C).size a ≤ (Mat R C).size a) :
    (VecWindow.window x ![o, 0] (Mat B C).size inb : (Mat B C).Idx → α) = take B x o := by
  funext z
  unfold VecWindow.window take
  have h0 : o + B ≤ R := inb 0
  have hz : (z 0).val < B := (z 0).isLt
  congr 1
  funext a
  match a with
  | ⟨0, _⟩ =>
    refine Fin.ext ?_
    show o + 1 * (z 0).val = (o + (z 0).val) % R
    rw [Nat.mod_eq_of_lt (by omega), Nat.one_mul]
  | ⟨1, _⟩ =>
    refine Fin.ext ?_
    show 0 + 1 * (z 1).val = (z 1).val
    omega

/-- Putting a window of full rows replaces those rows. -/
theorem put_rows {B : ℕ} (x : (Mat R C).Idx → α) (o : ℕ) (w : (Mat B C).Idx → α) :
    VecWindow.put x ![o, 0] (Mat B C).size w = putRows x o w := by
  funext y
  unfold VecWindow.put putRows
  by_cases h : o ≤ (y 0).val ∧ (y 0).val < o + B
  · have h1 : ∀ a : Fin 2, (![o, 0] : Fin 2 → ℕ) a ≤ (y a).val ∧ (y a).val < (![o, 0] : Fin 2 → ℕ) a + (Mat B C).size a := by
      intro a
      match a with
      | ⟨0, _⟩ => exact h
      | ⟨1, _⟩ => exact ⟨Nat.zero_le _, by show (y 1).val < 0 + C; have := idx2_lt1 y; omega⟩
    rw [dif_pos h, dif_pos h1]
    congr 1
    funext a
    match a with
    | ⟨0, _⟩ => rfl
    | ⟨1, _⟩ => rfl
  · rw [dif_neg h, dif_neg fun h' => h (h' 0)]

end Cert.Proof

end
-- ==== Proof.MegaRun.lean ====
/-
  The first pallas call's body, run at one grid point. The grid has four phases: in the first (16 points) the graph matrix
  is copied to the scratch, 256 rows at a point, and its product with the combined features `U12` is taken — `U12` and `P0`
  being computed by a loop at the very first point; in the other three (4 points each, 1024 rows at a point) the
  remaining products with the graph matrix follow, each over what the phase before it has finished.
-/
module

public import proofs.«01_k».proof.Proof.Base
public import proofs.«01_k».proof.Proof.Rows

@[expose] public section

noncomputable section

namespace Cert.Proof.Mega

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

variable (c : Dev nD) (i : grid0.Coords)
  (M1 : Memref sig .tc .vmem S256x4096 .f32) (h1 : M1.IsWhole)  (M2 : Memref sig .tc .vmem S4096x512 .bf16) (h2 : M2.IsWhole)
  (M3 : Memref sig .tc .vmem S512x768 .bf16) (h3 : M3.IsWhole)  (M4 : Memref sig .tc .vmem S256x384 .bf16) (h4 : M4.IsWhole)
  (M5 : Memref sig .tc .vmem S1x256 .f32) (h5 : M5.IsWhole)  (M6 : Memref sig .tc .vmem S1x128 .f32) (h6 : M6.IsWhole)
  (M7 : Memref sig .tc .vmem S1024x128 .f32) (h7 : M7.IsWhole)  (M8 : Memref sig .tc .vmem S4096x4096 .bf16) (h8 : M8.IsWhole)
  (M9 : Memref sig .tc .vmem S4096x512 .bf16) (h9 : M9.IsWhole)  (M10 : Memref sig .tc .vmem S4096x256 .bf16) (h10 : M10.IsWhole)
  (M11 : Memref sig .tc .vmem S4096x256 .bf16) (h11 : M11.IsWhole)  (M12 : Memref sig .tc .vmem S4096x256 .bf16) (h12 : M12.IsWhole)
  (M13 : Memref sig .tc .vmem S4096x256 .bf16) (h13 : M13.IsWhole)  (M14 : Memref sig .tc .vmem S4096x128 .bf16) (h14 : M14.IsWhole)
  (M15 : Memref sig .tc .vmem S4096x128 .bf16) (h15 : M15.IsWhole)  (M16 : Memref sig .tc .vmem S4096x128 .bf16) (h16 : M16.IsWhole)

/-- The whole memref held on core `c` at contents it reads as `X`. -/
abbrev own {sp : Space} {S : Shape} {e : EltTy} (M : Memref sig .tc sp S e) (X : S.Idx → Elt F e) : sProp 𝕄 :=
  owns (c : Thread nD τ) M fullShare X

/-! ## Which phase a point is in, and which rows it works on -/

/-- The first phase is the points 0 to 15. -/
theorem cond1_iff : ∀ i : grid0.Coords, k0_cond1 i = 1#1 ↔ 0 ≤ (i 0).val ∧ (i 0).val < 16 := by decide +kernel
/-- The point that multiplies the features by the weights is the first. -/
theorem cond2_iff : ∀ i : grid0.Coords, k0_cond2 i = 1#1 ↔ 0 ≤ (i 0).val ∧ (i 0).val < 1 := by decide +kernel
/-- The phase of the first layer's output is the points 16 to 19. -/
theorem cond3_iff : ∀ i : grid0.Coords, k0_cond3 i = 1#1 ↔ 16 ≤ (i 0).val ∧ (i 0).val < 20 := by decide +kernel
/-- The next phase is the points 20 to 23. -/
theorem cond4_iff : ∀ i : grid0.Coords, k0_cond4 i = 1#1 ↔ 20 ≤ (i 0).val ∧ (i 0).val < 24 := by decide +kernel
/-- The last phase is the points 24 to 27. -/
theorem cond5_iff : ∀ i : grid0.Coords, k0_cond5 i = 1#1 ↔ 24 ≤ (i 0).val ∧ (i 0).val < 28 := by decide +kernel
/-- In the first phase a point works on 256 rows. -/
theorem off3_eq : ∀ i : grid0.Coords, k0_cond1 i = 1#1 → k0_off3 i = ![256 * (i 0).val, 0] := by decide +kernel
/-- In the first phase a point works on 256 rows. -/
theorem off4_eq : ∀ i : grid0.Coords, k0_cond1 i = 1#1 → k0_off4 i = ![256 * (i 0).val, 0] := by decide +kernel
/-- At the points 16 to 19 a point works on 1024 rows. -/
theorem off5_eq : ∀ i : grid0.Coords, k0_cond3 i = 1#1 → k0_off5 i = ![1024 * ((i 0).val - 16), 0] := by decide +kernel
/-- At the points 16 to 19 a point works on 1024 rows. -/
theorem off6_eq : ∀ i : grid0.Coords, k0_cond3 i = 1#1 → k0_off6 i = ![1024 * ((i 0).val - 16), 0] := by decide +kernel
/-- At the points 16 to 19 a point works on 1024 rows. -/
theorem off7_eq : ∀ i : grid0.Coords, k0_cond3 i = 1#1 → k0_off7 i = ![1024 * ((i 0).val - 16), 0] := by decide +kernel
/-- At the points 20 to 23 a point works on 1024 rows. -/
theorem off8_eq : ∀ i : grid0.Coords, k0_cond4 i = 1#1 → k0_off8 i = ![1024 * ((i 0).val - 20), 0] := by decide +kernel
/-- At the points 20 to 23 a point works on 1024 rows. -/
theorem off9_eq : ∀ i : grid0.Coords, k0_cond4 i = 1#1 → k0_off9 i = ![1024 * ((i 0).val - 20), 0] := by decide +kernel
/-- At the points 24 to 27 a point works on 1024 rows. -/
theorem off10_eq : ∀ i : grid0.Coords, k0_cond5 i = 1#1 → k0_off10 i = ![1024 * ((i 0).val - 24), 0] := by decide +kernel
/-- At the points 24 to 27 a point works on 1024 rows. -/
theorem off11_eq : ∀ i : grid0.Coords, k0_cond5 i = 1#1 → k0_off11 i = ![1024 * ((i 0).val - 24), 0] := by decide +kernel

/-! ## The loop of the first point -/

/-- The features times the combined first-layer weights, the part that the graph matrix multiplies: all rows. -/
def u12 (x2 : S4096x512.Idx → Elt F .bf16) (x3 : S512x768.Idx → Elt F .bf16) : S4096x512.Idx → Elt F .bf16 :=
  stack 128 fun b => k0_pay2 (take 128 x2 (128 * b)) x3
/-- The features times the combined first-layer weights, the part that it does not multiply: all rows. -/
def p0 (x2 : S4096x512.Idx → Elt F .bf16) (x3 : S512x768.Idx → Elt F .bf16) : S4096x256.Idx → Elt F .bf16 :=
  stack 128 fun b => k0_pay3 (take 128 x2 (128 * b)) x3

/-- The loop goes round 32 times. -/
theorem trips_eq : k0_t1_loop.trips = 32 := by decide +kernel

/-- Before trip `k` the first `128 k` rows of both results are done. -/
def loopInv (x2 : S4096x512.Idx → Elt F .bf16) (x3 : S512x768.Idx → Elt F .bf16) (k : ℕ) (_ : Unit) : sProp 𝕄 :=
  iprop((∃ f, ⌜M2.view.read (Elt F) f = x2⌝ ∗ M2.view.loc (c : Thread nD τ) ↦[M2.view.set]{fullShare} f)
    ∗ (∃ f, ⌜M3.view.read (Elt F) f = x3⌝ ∗ M3.view.loc (c : Thread nD τ) ↦[M3.view.set]{fullShare} f)
    ∗ (∃ f, ⌜upto (128 * k) (M9.view.read (Elt F) f) (u12 x2 x3)⌝ ∗ M9.view.loc (c : Thread nD τ) ↦[M9.view.set]{fullShare} f)
    ∗ (∃ f, ⌜upto (128 * k) (M10.view.read (Elt F) f) (p0 x2 x3)⌝ ∗ M10.view.loc (c : Thread nD τ) ↦[M10.view.set]{fullShare} f))

set_option maxRecDepth 4096 in
/-- At the first point. -/
theorem run_first (hi : (i 0).val = 0) (x1 : S256x4096.Idx → Elt F .f32) (x2 : S4096x512.Idx → Elt F .bf16)
    (x3 : S512x768.Idx → Elt F .bf16) (x8 : S4096x4096.Idx → Elt F .bf16) (x9 : S4096x512.Idx → Elt F .bf16)
    (x10 x11 x12 : S4096x256.Idx → Elt F .bf16) (E : Set ℕ) (Q : PUnit → sProp 𝕄) :
    iprop(own c M1 x1 ∗ own c M2 x2 ∗ own c M3 x3 ∗ own c M8 x8 ∗ own c M9 x9 ∗ own c M10 x10 ∗ own c M11 x11 ∗ own c M12 x12
        ∗ (iprop(own c M1 x1 ∗ own c M2 x2 ∗ own c M3 x3 ∗ own c M8 (putRows x8 (256 * (i 0).val) (k0_pay5 x1))
            ∗ own c M9 (u12 x2 x3) ∗ own c M10 (p0 x2 x3)
            ∗ own c M11 (putRows x11 (256 * (i 0).val) (k0_pay7 x1 (u12 x2 x3)))
            ∗ own c M12 (putRows x12 (256 * (i 0).val) (k0_pay8 x1 (u12 x2 x3)))) -∗ Q ⟨⟩))
      ⊢ wp frame (wpE (defs₀ (F := F)) 𝒱₀ c none) E (cc0__mega_body i M1 h1 M2 h2 M3 h3 M4 h4 M5 h5 M6 h6 M7 h7 M8 h8 M9 h9 M10 h10 M11 h11 M12 h12 M13 h13 M14 h14 M15 h15 M16 h16) Q := by
  unfold own owns
  rw [cc0__mega_body_eq_skeleton]
  have e1 : k0_cond1 i = 1#1 := (cond1_iff i).mpr (by omega)
  have e2 : k0_cond2 i = 1#1 := (cond2_iff i).mpr (by omega)
  have e3 : ¬ k0_cond3 i = 1#1 := fun h => by have := (cond3_iff i).mp h; omega
  have e4 : ¬ k0_cond4 i = 1#1 := fun h => by have := (cond4_iff i).mp h; omega
  have e5 : ¬ k0_cond5 i = 1#1 := fun h => by have := (cond5_iff i).mp h; omega
  iintro ⟨⟨%f1, %g1, H1⟩, ⟨%f2, %g2, H2⟩, ⟨%f3, %g3, H3⟩, ⟨%f8, %g8, H8⟩, ⟨%f9, %g9, H9⟩, ⟨%f10, %g10, H10⟩, ⟨%f11, %g11, H11⟩, ⟨%f12, %g12, H12⟩, Hk⟩
  unfold cc0__mega_body_skel
  rw [k0_part1_eq_skeleton]; unfold k0_part1_skel
  sl_exec
  sl_for (loopInv c M2 M3 M9 M10 x2 x3) $$ [H2 H3 H9 H10]
  case region =>
    intro k _
    have hk : k.val < 32 := Nat.lt_of_lt_of_le k.isLt k0_t1_abs.2.1
    unfold loopInv
    iintro ⟨⟨%f2, %g2, H2⟩, ⟨%f3, %g3, H3⟩, ⟨%f9, %g9, H9⟩, ⟨%f10, %g10, H10⟩⟩
    sl_exec
    sl_step
    have i1 : ∀ a, (![128 * k.val, 0] : Fin 2 → ℕ) a + S128x512.size a ≤ S4096x512.size a := by
      rw [← k0_off1_eq]; exact k0_off1_inb i k e1 e2
    isplitl [H2]; · iexists f2; isplitr; · ipureintro; exact g2
                    iexact H2
    isplitl [H3]; · iexists f3; isplitr; · ipureintro; exact g3
                    iexact H3
    isplitl [H9]
    · iexists _; isplitr; swap; · iexact H9
      ipureintro
      rw [View.read_writes_cons_put _ _ _ _ _ (k0_off1_eq k), View.writes_nil, View.readAt_unit _ _ _ (k0_off1_eq k) i1, View.readAt_full, g2, g3]
      rw [put_rows, window_rows]
      exact upto_put _ g9
    · iexists _; isplitr; swap; · iexact H10
      ipureintro
      rw [View.read_writes_cons_put _ _ _ _ _ (k0_off2_eq k), View.writes_nil, View.readAt_unit _ _ _ (k0_off1_eq k) i1, View.readAt_full, g2, g3]
      rw [put_rows, window_rows]
      exact upto_put _ g10
  · unfold loopInv
    isplitl [H2]; · iexists f2; isplitr; · ipureintro; exact g2
                    iexact H2
    isplitl [H3]; · iexists f3; isplitr; · ipureintro; exact g3
                    iexact H3
    isplitl [H9]; · iexists f9; isplitr; · ipureintro; exact upto_zero _ _
                    iexact H9
    iexists f10; isplitr; · ipureintro; exact upto_zero _ _
    iexact H10
  iintro %_ HI
  unfold loopInv
  icases HI with ⟨⟨%f2', %g2', H2⟩, ⟨%f3', %g3', H3⟩, ⟨%f9', %g9, H9⟩, ⟨%f10', %g10, H10⟩⟩
  have g9' : M9.view.read (Elt F) f9' = u12 x2 x3 := eq_of_upto (by rw [show Scf.trips k0_t1_loop.lb k0_t1_loop.ub k0_t1_loop.st = 32 from trips_eq]) g9
  have g10' : M10.view.read (Elt F) f10' = p0 x2 x3 := eq_of_upto (by rw [show Scf.trips k0_t1_loop.lb k0_t1_loop.ub k0_t1_loop.st = 32 from trips_eq]) g10
  sl_exec
  sl_step
  iapply Hk
  isplitl [H1]; · iexists f1; isplitr; · ipureintro; exact g1
                  iexact H1
  isplitl [H2]; · iexists f2'; isplitr; · ipureintro; exact g2'
                  iexact H2
  isplitl [H3]; · iexists f3'; isplitr; · ipureintro; exact g3'
                  iexact H3
  isplitl [H8]
  · iexists _; isplitr; swap; · iexact H8
    ipureintro
    rw [View.read_writes_cons_put _ _ _ _ _ (off3_eq i e1), View.writes_nil, View.readAt_full, g1, g8, put_rows]
  isplitl [H9]; · iexists f9'; isplitr; · ipureintro; exact g9'
                  iexact H9
  isplitl [H10]; · iexists f10'; isplitr; · ipureintro; exact g10'
                   iexact H10
  isplitl [H11]
  · iexists _; isplitr; swap; · iexact H11
    ipureintro
    rw [View.read_writes_cons_put _ _ _ _ _ (off4_eq i e1), View.writes_nil, View.readAt_full, View.readAt_full, g1, g9', g11, put_rows]
  · iexists _; isplitr; swap; · iexact H12
    ipureintro
    rw [View.read_writes_cons_put _ _ _ _ _ (off4_eq i e1), View.writes_nil, View.readAt_full, View.readAt_full, g1, g9', g12, put_rows]

/-- At a later point of the first phase. -/
theorem run_copy (hi : (i 0).val ≠ 0) (hi' : (i 0).val < 16) (x1 : S256x4096.Idx → Elt F .f32) (x8 : S4096x4096.Idx → Elt F .bf16)
    (x9 : S4096x512.Idx → Elt F .bf16) (x11 x12 : S4096x256.Idx → Elt F .bf16) (E : Set ℕ) (Q : PUnit → sProp 𝕄) :
    iprop(own c M1 x1 ∗ own c M8 x8 ∗ own c M9 x9 ∗ own c M11 x11 ∗ own c M12 x12
        ∗ (iprop(own c M1 x1 ∗ own c M8 (putRows x8 (256 * (i 0).val) (k0_pay5 x1)) ∗ own c M9 x9
            ∗ own c M11 (putRows x11 (256 * (i 0).val) (k0_pay7 x1 x9))
            ∗ own c M12 (putRows x12 (256 * (i 0).val) (k0_pay8 x1 x9))) -∗ Q ⟨⟩))
      ⊢ wp frame (wpE (defs₀ (F := F)) 𝒱₀ c none) E (cc0__mega_body i M1 h1 M2 h2 M3 h3 M4 h4 M5 h5 M6 h6 M7 h7 M8 h8 M9 h9 M10 h10 M11 h11 M12 h12 M13 h13 M14 h14 M15 h15 M16 h16) Q := by
  unfold own owns
  rw [cc0__mega_body_eq_skeleton]
  have e1 : k0_cond1 i = 1#1 := (cond1_iff i).mpr (by omega)
  have e2 : ¬ k0_cond2 i = 1#1 := fun h => by have := (cond2_iff i).mp h; omega
  have e3 : ¬ k0_cond3 i = 1#1 := fun h => by have := (cond3_iff i).mp h; omega
  have e4 : ¬ k0_cond4 i = 1#1 := fun h => by have := (cond4_iff i).mp h; omega
  have e5 : ¬ k0_cond5 i = 1#1 := fun h => by have := (cond5_iff i).mp h; omega
  iintro ⟨⟨%f1, %g1, H1⟩, ⟨%f8, %g8, H8⟩, ⟨%f9, %g9, H9⟩, ⟨%f11, %g11, H11⟩, ⟨%f12, %g12, H12⟩, Hk⟩
  unfold cc0__mega_body_skel
  rw [k0_part1_eq_skeleton]; unfold k0_part1_skel
  sl_exec
  sl_step
  iapply Hk
  isplitl [H1]; · iexists f1; isplitr; · ipureintro; exact g1
                  iexact H1
  isplitl [H8]
  · iexists _; isplitr; swap; · iexact H8
    ipureintro
    rw [View.read_writes_cons_put _ _ _ _ _ (off3_eq i e1), View.writes_nil, View.readAt_full, g1, g8, put_rows]
  isplitl [H9]; · iexists f9; isplitr; · ipureintro; exact g9
                  iexact H9
  isplitl [H11]
  · iexists _; isplitr; swap; · iexact H11
    ipureintro
    rw [View.read_writes_cons_put _ _ _ _ _ (off4_eq i e1), View.writes_nil, View.readAt_full, View.readAt_full, g1, g9, g11, put_rows]
  · iexists _; isplitr; swap; · iexact H12
    ipureintro
    rw [View.read_writes_cons_put _ _ _ _ _ (off4_eq i e1), View.writes_nil, View.readAt_full, View.readAt_full, g1, g9, g12, put_rows]

/-- At a point of the second phase. -/
theorem run_second (hi : 16 ≤ (i 0).val) (hi' : (i 0).val < 20) (x4 : S256x384.Idx → Elt F .bf16) (x5 : S1x256.Idx → Elt F .f32)
    (x8 : S4096x4096.Idx → Elt F .bf16) (x10 x11 x12 x13 : S4096x256.Idx → Elt F .bf16) (x16 : S4096x128.Idx → Elt F .bf16)
    (E : Set ℕ) (Q : PUnit → sProp 𝕄) :
    iprop(own c M4 x4 ∗ own c M5 x5 ∗ own c M8 x8 ∗ own c M10 x10 ∗ own c M11 x11 ∗ own c M12 x12 ∗ own c M13 x13 ∗ own c M16 x16
        ∗ (iprop(own c M4 x4 ∗ own c M5 x5 ∗ own c M8 x8 ∗ own c M10 x10 ∗ own c M11 x11 ∗ own c M12 x12
            ∗ own c M13 (putRows x13 (1024 * ((i 0).val - 16)) (k0_pay10 (take 1024 x8 (1024 * ((i 0).val - 16))) x12 (take 1024 x10 (1024 * ((i 0).val - 16))) (take 1024 x11 (1024 * ((i 0).val - 16))) x5 x4))
            ∗ own c M16 (putRows x16 (1024 * ((i 0).val - 16)) (k0_pay11 (take 1024 x8 (1024 * ((i 0).val - 16))) x12 (take 1024 x10 (1024 * ((i 0).val - 16))) (take 1024 x11 (1024 * ((i 0).val - 16))) x5 x4))) -∗ Q ⟨⟩))
      ⊢ wp frame (wpE (defs₀ (F := F)) 𝒱₀ c none) E (cc0__mega_body i M1 h1 M2 h2 M3 h3 M4 h4 M5 h5 M6 h6 M7 h7 M8 h8 M9 h9 M10 h10 M11 h11 M12 h12 M13 h13 M14 h14 M15 h15 M16 h16) Q := by
  unfold own owns
  rw [cc0__mega_body_eq_skeleton]
  have e1 : ¬ k0_cond1 i = 1#1 := fun h => by have := (cond1_iff i).mp h; omega
  have e3 : k0_cond3 i = 1#1 := (cond3_iff i).mpr (by omega)
  have e4 : ¬ k0_cond4 i = 1#1 := fun h => by have := (cond4_iff i).mp h; omega
  have e5 : ¬ k0_cond5 i = 1#1 := fun h => by have := (cond5_iff i).mp h; omega
  have i5 : ∀ a, (![1024 * ((i 0).val - 16), 0] : Fin 2 → ℕ) a + S1024x4096.size a ≤ S4096x4096.size a := by
    rw [← off5_eq i e3]; exact k0_off5_inb i e3
  have i6 : ∀ a, (![1024 * ((i 0).val - 16), 0] : Fin 2 → ℕ) a + S1024x256.size a ≤ S4096x256.size a := by
    rw [← off6_eq i e3]; exact k0_off6_inb i e3
  iintro ⟨⟨%f4, %g4, H4⟩, ⟨%f5, %g5, H5⟩, ⟨%f8, %g8, H8⟩, ⟨%f10, %g10, H10⟩, ⟨%f11, %g11, H11⟩, ⟨%f12, %g12, H12⟩, ⟨%f13, %g13, H13⟩, ⟨%f16, %g16, H16⟩, Hk⟩
  unfold cc0__mega_body_skel
  rw [k0_part1_eq_skeleton]; unfold k0_part1_skel
  sl_exec
  sl_step
  iapply Hk
  isplitl [H4]; · iexists f4; isplitr; · ipureintro; exact g4
                  iexact H4
  isplitl [H5]; · iexists f5; isplitr; · ipureintro; exact g5
                  iexact H5
  isplitl [H8]; · iexists f8; isplitr; · ipureintro; exact g8
                  iexact H8
  isplitl [H10]; · iexists f10; isplitr; · ipureintro; exact g10
                   iexact H10
  isplitl [H11]; · iexists f11; isplitr; · ipureintro; exact g11
                   iexact H11
  isplitl [H12]; · iexists f12; isplitr; · ipureintro; exact g12
                   iexact H12
  isplitl [H13]
  · iexists _; isplitr; swap; · iexact H13
    ipureintro
    rw [View.read_writes_cons_put _ _ _ _ _ (off6_eq i e3), View.writes_nil, View.readAt_full, View.readAt_full, View.readAt_full,
      View.readAt_unit M8.view _ _ (off5_eq i e3) i5, View.readAt_unit M10.view _ _ (off6_eq i e3) i6, View.readAt_unit M11.view _ _ (off6_eq i e3) i6, g4, g5, g8, g10, g11, g12, g13, put_rows,
      window_rows, window_rows, window_rows]
  · iexists _; isplitr; swap; · iexact H16
    ipureintro
    rw [View.read_writes_cons_put _ _ _ _ _ (off7_eq i e3), View.writes_nil, View.readAt_full, View.readAt_full, View.readAt_full,
      View.readAt_unit M8.view _ _ (off5_eq i e3) i5, View.readAt_unit M10.view _ _ (off6_eq i e3) i6, View.readAt_unit M11.view _ _ (off6_eq i e3) i6, g4, g5, g8, g10, g11, g12, g16, put_rows,
      window_rows, window_rows, window_rows]

/-- At a point of the third phase. -/
theorem run_third (hi : 20 ≤ (i 0).val) (hi' : (i 0).val < 24)
    (x8 : S4096x4096.Idx → Elt F .bf16) (x13 : S4096x256.Idx → Elt F .bf16) (x14 x15 : S4096x128.Idx → Elt F .bf16)
    (E : Set ℕ) (Q : PUnit → sProp 𝕄) :
    iprop(own c M8 x8 ∗ own c M13 x13 ∗ own c M14 x14 ∗ own c M15 x15
        ∗ (iprop(own c M8 x8 ∗ own c M13 x13
            ∗ own c M14 (putRows x14 (1024 * ((i 0).val - 20)) (k0_pay13 (take 1024 x8 (1024 * ((i 0).val - 20))) x13))
            ∗ own c M15 (putRows x15 (1024 * ((i 0).val - 20)) (k0_pay14 (take 1024 x8 (1024 * ((i 0).val - 20))) x13))) -∗ Q ⟨⟩))
      ⊢ wp frame (wpE (defs₀ (F := F)) 𝒱₀ c none) E (cc0__mega_body i M1 h1 M2 h2 M3 h3 M4 h4 M5 h5 M6 h6 M7 h7 M8 h8 M9 h9 M10 h10 M11 h11 M12 h12 M13 h13 M14 h14 M15 h15 M16 h16) Q := by
  unfold own owns
  rw [cc0__mega_body_eq_skeleton]
  have e1 : ¬ k0_cond1 i = 1#1 := fun h => by have := (cond1_iff i).mp h; omega
  have e3 : ¬ k0_cond3 i = 1#1 := fun h => by have := (cond3_iff i).mp h; omega
  have e4 : k0_cond4 i = 1#1 := (cond4_iff i).mpr (by omega)
  have e5 : ¬ k0_cond5 i = 1#1 := fun h => by have := (cond5_iff i).mp h; omega
  have i8 : ∀ a, (![1024 * ((i 0).val - 20), 0] : Fin 2 → ℕ) a + S1024x4096.size a ≤ S4096x4096.size a := by
    rw [← off8_eq i e4]; exact k0_off8_inb i e4
  iintro ⟨⟨%f8, %g8, H8⟩, ⟨%f13, %g13, H13⟩, ⟨%f14, %g14, H14⟩, ⟨%f15, %g15, H15⟩, Hk⟩
  unfold cc0__mega_body_skel
  rw [k0_part1_eq_skeleton]; unfold k0_part1_skel
  sl_exec
  sl_step
  iapply Hk
  isplitl [H8]; · iexists f8; isplitr; · ipureintro; exact g8
                  iexact H8
  isplitl [H13]; · iexists f13; isplitr; · ipureintro; exact g13
                   iexact H13
  isplitl [H14]
  · iexists _; isplitr; swap; · iexact H14
    ipureintro
    rw [View.read_writes_cons_put _ _ _ _ _ (off9_eq i e4), View.writes_nil, View.readAt_unit _ _ _ (off8_eq i e4) i8, View.readAt_full, g8, g13, g14, put_rows,
      window_rows]
  · iexists _; isplitr; swap; · iexact H15
    ipureintro
    rw [View.read_writes_cons_put _ _ _ _ _ (off9_eq i e4), View.writes_nil, View.readAt_unit _ _ _ (off8_eq i e4) i8, View.readAt_full, g8, g13, g15, put_rows,
      window_rows]

/-- At a point of the last phase: the result's block is stored. -/
theorem run_fourth (hi : 24 ≤ (i 0).val) (x6 : S1x128.Idx → Elt F .f32) (x7 : S1024x128.Idx → Elt F .f32)
    (x8 : S4096x4096.Idx → Elt F .bf16) (x14 x15 x16 : S4096x128.Idx → Elt F .bf16) (E : Set ℕ) (Q : PUnit → sProp 𝕄) :
    iprop(own c M6 x6 ∗ own c M7 x7 ∗ own c M8 x8 ∗ own c M14 x14 ∗ own c M15 x15 ∗ own c M16 x16
        ∗ (iprop(own c M6 x6
            ∗ own c M7 (k0_pay15 (take 1024 x8 (1024 * ((i 0).val - 24))) x15 (take 1024 x16 (1024 * ((i 0).val - 24))) (take 1024 x14 (1024 * ((i 0).val - 24))) x6)
            ∗ own c M8 x8 ∗ own c M14 x14 ∗ own c M15 x15 ∗ own c M16 x16) -∗ Q ⟨⟩))
      ⊢ wp frame (wpE (defs₀ (F := F)) 𝒱₀ c none) E (cc0__mega_body i M1 h1 M2 h2 M3 h3 M4 h4 M5 h5 M6 h6 M7 h7 M8 h8 M9 h9 M10 h10 M11 h11 M12 h12 M13 h13 M14 h14 M15 h15 M16 h16) Q := by
  unfold own owns
  rw [cc0__mega_body_eq_skeleton]
  have hlt : (i 0).val < 28 := (i 0).isLt
  have e1 : ¬ k0_cond1 i = 1#1 := fun h => by have := (cond1_iff i).mp h; omega
  have e3 : ¬ k0_cond3 i = 1#1 := fun h => by have := (cond3_iff i).mp h; omega
  have e4 : ¬ k0_cond4 i = 1#1 := fun h => by have := (cond4_iff i).mp h; omega
  have e5 : k0_cond5 i = 1#1 := (cond5_iff i).mpr (by omega)
  have i10 : ∀ a, (![1024 * ((i 0).val - 24), 0] : Fin 2 → ℕ) a + S1024x4096.size a ≤ S4096x4096.size a := by
    rw [← off10_eq i e5]; exact k0_off10_inb i e5
  have i11 : ∀ a, (![1024 * ((i 0).val - 24), 0] : Fin 2 → ℕ) a + S1024x128.size a ≤ S4096x128.size a := by
    rw [← off11_eq i e5]; exact k0_off11_inb i e5
  iintro ⟨⟨%f6, %g6, H6⟩, ⟨%f7, %g7, H7⟩, ⟨%f8, %g8, H8⟩, ⟨%f14, %g14, H14⟩, ⟨%f15, %g15, H15⟩, ⟨%f16, %g16, H16⟩, Hk⟩
  unfold cc0__mega_body_skel
  rw [k0_part1_eq_skeleton]; unfold k0_part1_skel
  sl_exec
  sl_step
  iapply Hk
  isplitl [H6]; · iexists f6; isplitr; · ipureintro; exact g6
                  iexact H6
  isplitl [H7]
  · iexists _; isplitr; swap; · iexact H7
    ipureintro
    rw [View.read_writes_full, View.readAt_full, View.readAt_full, View.readAt_unit M8.view _ _ (off10_eq i e5) i10,
      View.readAt_unit M14.view _ _ (off11_eq i e5) i11, View.readAt_unit M16.view _ _ (off11_eq i e5) i11, g6, g8, g14, g15, g16,
      window_rows, window_rows, window_rows]
  isplitl [H8]; · iexists f8; isplitr; · ipureintro; exact g8
                  iexact H8
  isplitl [H14]; · iexists f14; isplitr; · ipureintro; exact g14
                   iexact H14
  isplitl [H15]; · iexists f15; isplitr; · ipureintro; exact g15
                   iexact H15
  iexists f16; isplitr; · ipureintro; exact g16
  iexact H16

end Cert.Proof.Mega

end
-- ==== Proof.MegaRegion.lean ====
/-
  The first pallas call as a region of the program: what its arrays hold before and after it. The invariant between two
  grid points says which rows of each scratch matrix are finished; the result's four blocks are written in the last phase.
-/
module

public import proofs.«01_k».proof.Proof.MegaRun
public import Idealize.ShloMosaic.Lib.Pipeline.Regions

@[expose] public section

noncomputable section

namespace Cert.Proof.Mega

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)

variable {F : FTy → Type} [FloatOps F]

local notation "𝕄" => MT nD τ sig Unit (Elt F) ℕ UU ℕ

variable (V : (c : Dev nD) → (b : Ref sig .tc) → Buf (Elt F) ((c : Thread nD τ).loc b))

/-- The block of the graph matrix that point `t` works on. -/
abbrev blk0 (c : Dev nD) (t : Fin cfg0.N) : S256x4096.Idx → Elt F .f32 :=
  ((cfg0.win 0).blk t).view.read (Elt F) (V c (Pipeline.arrRef spec0 0))
/-- The block of the features, nodes by (batch, feature) that point `t` works on. -/
abbrev blk1 (c : Dev nD) (t : Fin cfg0.N) : S4096x512.Idx → Elt F .bf16 :=
  ((cfg0.win 1).blk t).view.read (Elt F) (V c (Pipeline.arrRef spec0 1))
/-- The block of the combined first-layer weights that point `t` works on. -/
abbrev blk2 (c : Dev nD) (t : Fin cfg0.N) : S512x768.Idx → Elt F .bf16 :=
  ((cfg0.win 2).blk t).view.read (Elt F) (V c (Pipeline.arrRef spec0 2))
/-- The block of the combined second-layer weights that point `t` works on. -/
abbrev blk3 (c : Dev nD) (t : Fin cfg0.N) : S256x384.Idx → Elt F .bf16 :=
  ((cfg0.win 3).blk t).view.read (Elt F) (V c (Pipeline.arrRef spec0 3))
/-- The block of the first bias that point `t` works on. -/
abbrev blk4 (c : Dev nD) (t : Fin cfg0.N) : S1x256.Idx → Elt F .f32 :=
  ((cfg0.win 4).blk t).view.read (Elt F) (V c (Pipeline.arrRef spec0 4))
/-- The block of the second bias that point `t` works on. -/
abbrev blk5 (c : Dev nD) (t : Fin cfg0.N) : S1x128.Idx → Elt F .f32 :=
  ((cfg0.win 5).blk t).view.read (Elt F) (V c (Pipeline.arrRef spec0 5))

/-- The grid point of number `n` (counted round the grid). -/
abbrev pt (n : ℕ) : Fin cfg0.N := ⟨n % 28, by rw [show cfg0.N = 28 from N_0]; omega⟩

/-- The grid point that has the number of a grid point is that point. -/
theorem pt_val (t : Fin cfg0.N) : pt t.val = t := Fin.ext (Nat.mod_eq_of_lt (lt_of_lt_of_eq t.isLt N_0))

/-! ## What each scratch matrix holds when it is finished -/

variable (c : Dev nD)

/-- The features times the weights that the graph matrix multiplies. -/
def mU12 : S4096x512.Idx → Elt F .bf16 := u12 (blk1 V c (pt 0)) (blk2 V c (pt 0))
/-- The features times the weights that it does not multiply. -/
def mP0 : S4096x256.Idx → Elt F .bf16 := p0 (blk1 V c (pt 0)) (blk2 V c (pt 0))
/-- The graph matrix, rounded. -/
def mA : S4096x4096.Idx → Elt F .bf16 := stack 256 fun t => k0_pay5 (blk0 V c (pt t))
/-- The graph matrix times the first half of `mU12`. -/
def mY1 : S4096x256.Idx → Elt F .bf16 := stack 256 fun t => k0_pay7 (blk0 V c (pt t)) (mU12 V c)
/-- The graph matrix times the second half of `mU12`. -/
def mY2 : S4096x256.Idx → Elt F .bf16 := stack 256 fun t => k0_pay8 (blk0 V c (pt t)) (mU12 V c)
/-- The first layer's output times the second-layer weights that the graph matrix multiplies. -/
def mV12 : S4096x256.Idx → Elt F .bf16 := stack 1024 fun s =>
  k0_pay10 (take 1024 (mA V c) (1024 * s)) (mY2 V c) (take 1024 (mP0 V c) (1024 * s)) (take 1024 (mY1 V c) (1024 * s)) (blk4 V c (pt (16 + s))) (blk3 V c (pt (16 + s)))
/-- The first layer's output times the second-layer weights that it does not multiply. -/
def mQ0 : S4096x128.Idx → Elt F .bf16 := stack 1024 fun s =>
  k0_pay11 (take 1024 (mA V c) (1024 * s)) (mY2 V c) (take 1024 (mP0 V c) (1024 * s)) (take 1024 (mY1 V c) (1024 * s)) (blk4 V c (pt (16 + s))) (blk3 V c (pt (16 + s)))
/-- The graph matrix times the first half of `mV12`. -/
def mS1 : S4096x128.Idx → Elt F .bf16 := stack 1024 fun s => k0_pay13 (take 1024 (mA V c) (1024 * s)) (mV12 V c)
/-- The graph matrix times the second half of `mV12`. -/
def mS2 : S4096x128.Idx → Elt F .bf16 := stack 1024 fun s => k0_pay14 (take 1024 (mA V c) (1024 * s)) (mV12 V c)
/-- The result's block number `s`. -/
def out (s : ℕ) : S1024x128.Idx → Elt F .f32 :=
  k0_pay15 (take 1024 (mA V c) (1024 * s)) (mS2 V c) (take 1024 (mQ0 V c) (1024 * s)) (take 1024 (mS1 V c) (1024 * s)) (blk5 V c (pt (24 + s)))

/-- What holds of the scratch matrices before point `n`. -/
structure Ok (n : ℕ) (X8 : S4096x4096.Idx → Elt F .bf16) (X9 : S4096x512.Idx → Elt F .bf16) (X10 X11 X12 X13 : S4096x256.Idx → Elt F .bf16)
    (X14 X15 X16 : S4096x128.Idx → Elt F .bf16) : Prop where
  o8 : upto (256 * n) X8 (mA V c)
  o9 : 1 ≤ n → X9 = mU12 V c
  o10 : 1 ≤ n → X10 = mP0 V c
  o11 : upto (256 * n) X11 (mY1 V c)
  o12 : upto (256 * n) X12 (mY2 V c)
  o13 : upto (1024 * (n - 16)) X13 (mV12 V c)
  o14 : upto (1024 * (n - 20)) X14 (mS1 V c)
  o15 : upto (1024 * (n - 20)) X15 (mS2 V c)
  o16 : upto (1024 * (n - 16)) X16 (mQ0 V c)

variable {V c}
variable {n : ℕ} {X8 : S4096x4096.Idx → Elt F .bf16} {X9 : S4096x512.Idx → Elt F .bf16} {X10 X11 X12 X13 : S4096x256.Idx → Elt F .bf16}
    {X14 X15 X16 : S4096x128.Idx → Elt F .bf16}

/-- Before the first point nothing is asked of the scratch matrices. -/
theorem Ok.zero : Ok V c 0 X8 X9 X10 X11 X12 X13 X14 X15 X16 :=
  ⟨upto_zero _ _, fun h => absurd h (by omega), fun h => absurd h (by omega), upto_zero _ _, upto_zero _ _, upto_zero _ _, upto_zero _ _, upto_zero _ _, upto_zero _ _⟩

/-- No rows, whatever their number is computed from. -/
theorem upto_none {R C m : ℕ} {α : Type} (hm : m = 0) {x T : (Mat R C).Idx → α} : upto m x T := hm ▸ upto_zero _ _

/-- A point of the first phase (the first one included, `X9` then being what its loop leaves). -/
theorem Ok.copy (h : Ok V c n X8 X9 X10 X11 X12 X13 X14 X15 X16) (hn : n < 16) :
    Ok V c (n + 1) (putRows X8 (256 * n) (k0_pay5 (blk0 V c (pt n)))) (mU12 V c) (mP0 V c)
      (putRows X11 (256 * n) (k0_pay7 (blk0 V c (pt n)) (mU12 V c))) (putRows X12 (256 * n) (k0_pay8 (blk0 V c (pt n)) (mU12 V c))) X13 X14 X15 X16 :=
  ⟨upto_put (fun t => k0_pay5 (blk0 V c (pt t))) h.o8, fun _ => rfl, fun _ => rfl,
    upto_put (fun t => k0_pay7 (blk0 V c (pt t)) (mU12 V c)) h.o11, upto_put (fun t => k0_pay8 (blk0 V c (pt t)) (mU12 V c)) h.o12,
    upto_none (by omega), upto_none (by omega), upto_none (by omega), upto_none (by omega)⟩

/-- The first phase finished: four matrices are what they should be. -/
theorem Ok.first (h : Ok V c n X8 X9 X10 X11 X12 X13 X14 X15 X16) (hn : 16 ≤ n) :
    X8 = mA V c ∧ X9 = mU12 V c ∧ X10 = mP0 V c ∧ X11 = mY1 V c ∧ X12 = mY2 V c :=
  ⟨eq_of_upto (by omega) h.o8, h.o9 (by omega), h.o10 (by omega), eq_of_upto (by omega) h.o11, eq_of_upto (by omega) h.o12⟩

/-- The second phase finished. -/
theorem Ok.second (h : Ok V c n X8 X9 X10 X11 X12 X13 X14 X15 X16) (hn : 20 ≤ n) : X13 = mV12 V c ∧ X16 = mQ0 V c :=
  ⟨eq_of_upto (by omega) h.o13, eq_of_upto (by omega) h.o16⟩

/-- The third phase finished. -/
theorem Ok.third (h : Ok V c n X8 X9 X10 X11 X12 X13 X14 X15 X16) (hn : 24 ≤ n) : X14 = mS1 V c ∧ X15 = mS2 V c :=
  ⟨eq_of_upto (by omega) h.o14, eq_of_upto (by omega) h.o15⟩

/-- A point of the second phase. -/
theorem Ok.step2 (h : Ok V c n X8 X9 X10 X11 X12 X13 X14 X15 X16) (hn : 16 ≤ n) (hn' : n < 20) :
    Ok V c (n + 1) X8 X9 X10 X11 X12
      (putRows X13 (1024 * (n - 16)) (k0_pay10 (take 1024 X8 (1024 * (n - 16))) X12 (take 1024 X10 (1024 * (n - 16))) (take 1024 X11 (1024 * (n - 16))) (blk4 V c (pt n)) (blk3 V c (pt n))))
      X14 X15
      (putRows X16 (1024 * (n - 16)) (k0_pay11 (take 1024 X8 (1024 * (n - 16))) X12 (take 1024 X10 (1024 * (n - 16))) (take 1024 X11 (1024 * (n - 16))) (blk4 V c (pt n)) (blk3 V c (pt n)))) := by
  obtain ⟨rfl, rfl, rfl, rfl, rfl⟩ := h.first hn
  obtain ⟨s, rfl⟩ : ∃ s, n = 16 + s := ⟨n - 16, by omega⟩
  have e : 16 + s - 16 = s := by omega
  have e' : 16 + s + 1 - 16 = s + 1 := by omega
  have h13 := h.o13
  have h16 := h.o16
  rw [e] at h13 h16
  rw [e]
  refine ⟨upto_self _ _, fun _ => rfl, fun _ => rfl, upto_self _ _, upto_self _ _, ?_, upto_none (by omega), upto_none (by omega), ?_⟩
  · rw [e']; exact upto_put (fun s => k0_pay10 (take 1024 (mA V c) (1024 * s)) (mY2 V c) (take 1024 (mP0 V c) (1024 * s)) (take 1024 (mY1 V c) (1024 * s)) (blk4 V c (pt (16 + s))) (blk3 V c (pt (16 + s)))) h13
  · rw [e']; exact upto_put (fun s => k0_pay11 (take 1024 (mA V c) (1024 * s)) (mY2 V c) (take 1024 (mP0 V c) (1024 * s)) (take 1024 (mY1 V c) (1024 * s)) (blk4 V c (pt (16 + s))) (blk3 V c (pt (16 + s)))) h16

/-- A point of the third phase. -/
theorem Ok.step3 (h : Ok V c n X8 X9 X10 X11 X12 X13 X14 X15 X16) (hn : 20 ≤ n) (hn' : n < 24) :
    Ok V c (n + 1) X8 X9 X10 X11 X12 X13
      (putRows X14 (1024 * (n - 20)) (k0_pay13 (take 1024 X8 (1024 * (n - 20))) X13))
      (putRows X15 (1024 * (n - 20)) (k0_pay14 (take 1024 X8 (1024 * (n - 20))) X13)) X16 := by
  obtain ⟨rfl, rfl, rfl, rfl, rfl⟩ := h.first (by omega)
  obtain ⟨rfl, rfl⟩ := h.second hn
  obtain ⟨s, rfl⟩ : ∃ s, n = 20 + s := ⟨n - 20, by omega⟩
  have e : 20 + s - 20 = s := by omega
  have e' : 20 + s + 1 - 20 = s + 1 := by omega
  have h14 := h.o14
  have h15 := h.o15
  rw [e] at h14 h15
  rw [e]
  refine ⟨upto_self _ _, fun _ => rfl, fun _ => rfl, upto_self _ _, upto_self _ _, upto_self _ _, ?_, ?_, upto_self _ _⟩
  · rw [e']; exact upto_put (fun s => k0_pay13 (take 1024 (mA V c) (1024 * s)) (mV12 V c)) h14
  · rw [e']; exact upto_put (fun s => k0_pay14 (take 1024 (mA V c) (1024 * s)) (mV12 V c)) h15

/-- A point of the last phase changes no scratch matrix, and its block is the result's. -/
theorem Ok.step4 (h : Ok V c n X8 X9 X10 X11 X12 X13 X14 X15 X16) (hn : 24 ≤ n) :
    Ok V c (n + 1) X8 X9 X10 X11 X12 X13 X14 X15 X16
      ∧ k0_pay15 (take 1024 X8 (1024 * (n - 24))) X15 (take 1024 X16 (1024 * (n - 24))) (take 1024 X14 (1024 * (n - 24))) (blk5 V c (pt n)) = out V c (n - 24) := by
  obtain ⟨rfl, rfl, rfl, rfl, rfl⟩ := h.first (by omega)
  obtain ⟨rfl, rfl⟩ := h.second (by omega)
  obtain ⟨rfl, rfl⟩ := h.third hn
  refine ⟨⟨upto_self _ _, fun _ => rfl, fun _ => rfl, upto_self _ _, upto_self _ _, upto_self _ _, upto_self _ _, upto_self _ _, upto_self _ _⟩, ?_⟩
  unfold out
  rw [show 24 + (n - 24) = n by omega]

variable (V c)

/-! ## The invariant and the proof data -/

/-- The first scratch matrix's buffer, at something. -/
abbrev scratch0 : sProp 𝕄 :=
  iprop(∃ f : Buf (Elt F) ((c : Thread nD τ).loc cc0_scratch0), ((c : Thread nD τ).loc cc0_scratch0) ↦{fullShare} f)
/-- The second scratch matrix's buffer, at something. -/
abbrev scratch1 : sProp 𝕄 :=
  iprop(∃ f : Buf (Elt F) ((c : Thread nD τ).loc cc0_scratch1), ((c : Thread nD τ).loc cc0_scratch1) ↦{fullShare} f)
/-- The third scratch matrix's buffer, at something. -/
abbrev scratch2 : sProp 𝕄 :=
  iprop(∃ f : Buf (Elt F) ((c : Thread nD τ).loc cc0_scratch2), ((c : Thread nD τ).loc cc0_scratch2) ↦{fullShare} f)
/-- The fourth scratch matrix's buffer, at something. -/
abbrev scratch3 : sProp 𝕄 :=
  iprop(∃ f : Buf (Elt F) ((c : Thread nD τ).loc cc0_scratch3), ((c : Thread nD τ).loc cc0_scratch3) ↦{fullShare} f)
/-- The fifth scratch matrix's buffer, at something. -/
abbrev scratch4 : sProp 𝕄 :=
  iprop(∃ f : Buf (Elt F) ((c : Thread nD τ).loc cc0_scratch4), ((c : Thread nD τ).loc cc0_scratch4) ↦{fullShare} f)
/-- The sixth scratch matrix's buffer, at something. -/
abbrev scratch5 : sProp 𝕄 :=
  iprop(∃ f : Buf (Elt F) ((c : Thread nD τ).loc cc0_scratch5), ((c : Thread nD τ).loc cc0_scratch5) ↦{fullShare} f)
/-- The seventh scratch matrix's buffer, at something. -/
abbrev scratch6 : sProp 𝕄 :=
  iprop(∃ f : Buf (Elt F) ((c : Thread nD τ).loc cc0_scratch6), ((c : Thread nD τ).loc cc0_scratch6) ↦{fullShare} f)
/-- The eighth scratch matrix's buffer, at something. -/
abbrev scratch7 : sProp 𝕄 :=
  iprop(∃ f : Buf (Elt F) ((c : Thread nD τ).loc cc0_scratch7), ((c : Thread nD τ).loc cc0_scratch7) ↦{fullShare} f)
/-- The ninth scratch matrix's buffer, at something. -/
abbrev scratch8 : sProp 𝕄 :=
  iprop(∃ f : Buf (Elt F) ((c : Thread nD τ).loc cc0_scratch8), ((c : Thread nD τ).loc cc0_scratch8) ↦{fullShare} f)

/-- The nine scratch matrices' buffers, each at something. -/
abbrev scratch : sProp 𝕄 := iprop(scratch0 (F := F) c ∗ scratch1 (F := F) c ∗ scratch2 (F := F) c ∗ scratch3 (F := F) c ∗ scratch4 (F := F) c ∗ scratch5 (F := F) c ∗ scratch6 (F := F) c ∗ scratch7 (F := F) c ∗ scratch8 (F := F) c)

/-- The other scoped buffers, as what completes the scratch matrices to all of them. -/
abbrev others : sProp 𝕄 :=
  iprop(scratch (F := F) c -∗ Pipeline.scopedRest (Ix := Unit) (Name := ℕ) (U := UU) (Lvl := ℕ) (Val := Elt F) spec0 c)

/-- The invariant before point `n`. -/
def inv (n : ℕ) : sProp 𝕄 :=
  iprop((∃ X8 X9 X10 X11 X12 X13 X14 X15 X16, ⌜Ok V c n X8 X9 X10 X11 X12 X13 X14 X15 X16⌝
    ∗ owns (c : Thread nD τ) (Memref.whole cc0_scratch0) fullShare X8 ∗ owns (c : Thread nD τ) (Memref.whole cc0_scratch1) fullShare X9 ∗ owns (c : Thread nD τ) (Memref.whole cc0_scratch2) fullShare X10 ∗ owns (c : Thread nD τ) (Memref.whole cc0_scratch3) fullShare X11 ∗ owns (c : Thread nD τ) (Memref.whole cc0_scratch4) fullShare X12 ∗ owns (c : Thread nD τ) (Memref.whole cc0_scratch5) fullShare X13 ∗ owns (c : Thread nD τ) (Memref.whole cc0_scratch6) fullShare X14 ∗ owns (c : Thread nD τ) (Memref.whole cc0_scratch7) fullShare X15 ∗ owns (c : Thread nD τ) (Memref.whole cc0_scratch8) fullShare X16) ∗ others c)

/-- The scoped buffers the call does not stage, apart: the scratch matrices' and the others. -/
theorem scoped_split :
    (Pipeline.scopedRest (Ix := Unit) (Name := ℕ) (U := UU) (Lvl := ℕ) (Val := Elt F) spec0 c : sProp 𝕄)
      ⊢ iprop(scratch c ∗ others c) := by
  unfold others scratch
  rw [scopedRest0_eq]
  iintro ⟨H1, H2, H3, H4, H5, H6, H7, H8, H9, H10, H11, H12, H13, H14, H15, H16, H17, H18, H19, H20⟩
  isplitl [H1 H2 H3 H4 H5 H6 H7 H8 H9]
  · isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9
  iintro ⟨H1, H2, H3, H4, H5, H6, H7, H8, H9⟩
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  iexact H20

/-- The proof data of the call: the arrays at the entry valuation; each input's buffer left at its block, the result's
    at the block of the last phase; nothing owed. -/
def dat (c : Dev nD) : Dat τ (Elt F) Unit ℕ UU ℕ cfg0 c where
  A w := V c (Pipeline.arrRef spec0 w)
  after w t := match w with
    | ⟨0, _⟩ => blk0 V c t
    | ⟨1, _⟩ => blk1 V c t
    | ⟨2, _⟩ => blk2 V c t
    | ⟨3, _⟩ => blk3 V c t
    | ⟨4, _⟩ => blk4 V c t
    | ⟨5, _⟩ => blk5 V c t
    | ⟨6, _⟩ => out V c (t.val - 24)
  Φ t := inv V c t.val
  q _ := fullShare
  owed _ := 0

/-- An input's buffer holds its block when the body runs. -/
theorem before0 (c : Dev nD) (t : Fin cfg0.N) (d) : (dat V c).before 0 t d = blk0 V c t :=
  (dat V c).before_in_eq_fetched 0 rfl (fun _ => rfl) (fun _ _ _ => rfl) (fun _ => rfl) t d
/-- The same of input 1. -/
theorem before1 (c : Dev nD) (t : Fin cfg0.N) (d) : (dat V c).before 1 t d = blk1 V c t :=
  (dat V c).before_in_eq_fetched 1 rfl (fun _ => rfl) (fun _ _ _ => rfl) (fun _ => rfl) t d
/-- The same of input 2. -/
theorem before2 (c : Dev nD) (t : Fin cfg0.N) (d) : (dat V c).before 2 t d = blk2 V c t :=
  (dat V c).before_in_eq_fetched 2 rfl (fun _ => rfl) (fun _ _ _ => rfl) (fun _ => rfl) t d
/-- The same of input 3. -/
theorem before3 (c : Dev nD) (t : Fin cfg0.N) (d) : (dat V c).before 3 t d = blk3 V c t :=
  (dat V c).before_in_eq_fetched 3 rfl (fun _ => rfl) (fun _ _ _ => rfl) (fun _ => rfl) t d
/-- The same of input 4. -/
theorem before4 (c : Dev nD) (t : Fin cfg0.N) (d) : (dat V c).before 4 t d = blk4 V c t :=
  (dat V c).before_in_eq_fetched 4 rfl (fun _ => rfl) (fun _ _ _ => rfl) (fun _ => rfl) t d
/-- The same of input 5. -/
theorem before5 (c : Dev nD) (t : Fin cfg0.N) (d) : (dat V c).before 5 t d = blk5 V c t :=
  (dat V c).before_in_eq_fetched 5 rfl (fun _ => rfl) (fun _ _ _ => rfl) (fun _ => rfl) t d

/-- The grid's only coordinate at point `t` is `t`. -/
theorem coord (t : Fin cfg0.N) : (grid0.coords t 0).val = t.val :=
  (by decide +kernel : ∀ t : Fin grid0.N, (grid0.coords t 0).val = t.val) t

/-- The result's window is idle exactly before the last phase. -/
theorem idle_iff (t : Fin cfg0.N) : idle0 6 (grid0.coords t) = decide (t.val < 24) :=
  (by decide +kernel : ∀ t : Fin grid0.N, idle0 6 (grid0.coords t) = decide (t.val < 24)) t

/-- The result's window is stored back exactly in the last phase. -/
theorem flush_iff (t : Fin cfg0.N) : (win0 6).flush t = decide (24 ≤ t.val) :=
  (by decide +kernel : ∀ t : Fin grid0.N, (win0 6).flush t = decide (24 ≤ t.val)) t

set_option maxHeartbeats 2000000 in
set_option maxRecDepth 4096 in
/-- The body obligation. -/
theorem body_obligation (c : Dev nD) : BodyObligation (dat V c) (defs₀ (F := F)) 𝒱₀ () Set.univ := fun t => by
  have ht : t.val < 28 := lt_of_lt_of_eq t.isLt N_0
  have hpt : pt t.val = t := pt_val t
  have hc : (grid0.coords t 0).val = t.val := coord t
  rw [bigSep_W0, bigSep_W0]
  simp only []
  rw [show (dat V c).Φ t.castSucc = inv V c t.val from rfl, show (dat V c).Φ t.succ = inv V c (t.val + 1) from rfl,
    show (dat V c).owesAt () t.succ = (dat V c).owesAt () t.castSucc from rfl]
  simp only [before0, before1, before2, before3, before4, before5]
  rw [show defs₀ (F := F) Proc.tc 0 (t, cfg0.slots t) = bodyAt0 t from rfl]
  unfold bodyAt0
  by_cases h7 : 24 ≤ t.val
  · rw [show idle0 6 (grid0.coords t) = false from (idle_iff t).trans (by simp; omega)]
    simp only []
    unfold inv
    iintro ⟨⟨⟨%X8, %X9, %X10, %X11, %X12, %X13, %X14, %X15, %X16, %hX, S8, S9, S10, S11, S12, S13, S14, S15, S16⟩, Hr⟩, Howes, ⟨%d0, H0⟩, ⟨%d1, H1⟩, ⟨%d2, H2⟩, ⟨%d3, H3⟩, ⟨%d4, H4⟩, ⟨%d5, H5⟩, ⟨%d6, H6⟩⟩
    obtain ⟨hok, hout⟩ := hX.step4 h7
    rw [hpt] at hout
    iapply (run_fourth c (grid0.coords t) _ _ _ _ _ _ _ _ _ _ _ _ _ _ _ _ _ _ _ _ _ _ _ _ _ _ _ _ _ _ _ _ (by rw [hc]; exact h7) (blk5 V c t) _ X8 X14 X15 X16 Set.univ _)
    unfold own
    isplitl [H5]; · iexact H5
    isplitl [H6]; · iexact H6
    isplitl [S8]; · iexact S8
    isplitl [S14]; · iexact S14
    isplitl [S15]; · iexact S15
    isplitl [S16]; · iexact S16
    iintro ⟨H5, H6, S8, S14, S15, S16⟩
    isplitl [S8 S9 S10 S11 S12 S13 S14 S15 S16 Hr]
    · isplitl [S8 S9 S10 S11 S12 S13 S14 S15 S16]
      · iexists _, _, _, _, _, _, _, _, _; isplitr; swap
        · isplitl [S8]; · iexact S8
          isplitl [S9]; · iexact S9
          isplitl [S10]; · iexact S10
          isplitl [S11]; · iexact S11
          isplitl [S12]; · iexact S12
          isplitl [S13]; · iexact S13
          isplitl [S14]; · iexact S14
          isplitl [S15]; · iexact S15
          iexact S16
        ipureintro; exact hok
      iexact Hr
    isplitl [Howes]; · iexact Howes
    isplitl [H0]; · iexact H0
    isplitl [H1]; · iexact H1
    isplitl [H2]; · iexact H2
    isplitl [H3]; · iexact H3
    isplitl [H4]; · iexact H4
    isplitl [H5]; · iexact H5
    rw [hc]
    have e : out V c (t.val - 24) = (dat V c).after 6 t := rfl
    rw [← e, ← hout]
    iexact H6
  · rw [show idle0 6 (grid0.coords t) = true from (idle_iff t).trans (by simp; omega), show (win0 6).flush t = false from (flush_iff t).trans (by simp; omega)]
    simp only []
    unfold inv
    iintro ⟨⟨⟨%X8, %X9, %X10, %X11, %X12, %X13, %X14, %X15, %X16, %hX, S8, S9, S10, S11, S12, S13, S14, S15, S16⟩, Hr⟩, Howes, ⟨%d0, H0⟩, ⟨%d1, H1⟩, ⟨%d2, H2⟩, ⟨%d3, H3⟩, ⟨%d4, H4⟩, ⟨%d5, H5⟩, H6⟩
    by_cases h0 : t.val = 0
    · iapply (run_first c (grid0.coords t) _ _ _ _ _ _ _ _ _ _ _ _ _ _ _ _ _ _ _ _ _ _ _ _ _ _ _ _ _ _ _ _ (hc.trans h0) (blk0 V c t) (blk1 V c t) (blk2 V c t) X8 X9 X10 X11 X12 Set.univ _)
      unfold own
      isplitl [H0]; · iexact H0
      isplitl [H1]; · iexact H1
      isplitl [H2]; · iexact H2
      isplitl [S8]; · iexact S8
      isplitl [S9]; · iexact S9
      isplitl [S10]; · iexact S10
      isplitl [S11]; · iexact S11
      isplitl [S12]; · iexact S12
      iintro ⟨H0, H1, H2, S8, S9, S10, S11, S12⟩
      isplitl [S8 S9 S10 S11 S12 S13 S14 S15 S16 Hr]
      · isplitl [S8 S9 S10 S11 S12 S13 S14 S15 S16]
        · iexists _, _, _, _, _, _, _, _, _; isplitr; swap
          · isplitl [S8]; · iexact S8
            isplitl [S9]; · iexact S9
            isplitl [S10]; · iexact S10
            isplitl [S11]; · iexact S11
            isplitl [S12]; · iexact S12
            isplitl [S13]; · iexact S13
            isplitl [S14]; · iexact S14
            isplitl [S15]; · iexact S15
            iexact S16
          ipureintro; have := hX.copy (by omega); rw [hpt] at this; rw [hc, show u12 (blk1 V c t) (blk2 V c t) = mU12 V c from by rw [← hpt, h0]; rfl, show p0 (blk1 V c t) (blk2 V c t) = mP0 V c from by rw [← hpt, h0]; rfl]; exact this
        iexact Hr
      isplitl [Howes]; · iexact Howes
      isplitl [H0]; · iexact H0
      isplitl [H1]; · iexact H1
      isplitl [H2]; · iexact H2
      isplitl [H3]; · iexact H3
      isplitl [H4]; · iexact H4
      isplitl [H5]; · iexact H5
      iexact H6
    by_cases h1 : t.val < 16
    · obtain rfl : X9 = mU12 V c := hX.o9 (by omega)
      obtain rfl : X10 = mP0 V c := hX.o10 (by omega)
      iapply (run_copy c (grid0.coords t) _ _ _ _ _ _ _ _ _ _ _ _ _ _ _ _ _ _ _ _ _ _ _ _ _ _ _ _ _ _ _ _ (fun h => h0 (hc.symm.trans h)) (by rw [hc]; exact h1) (blk0 V c t) X8 (mU12 V c) X11 X12 Set.univ _)
      unfold own
      isplitl [H0]; · iexact H0
      isplitl [S8]; · iexact S8
      isplitl [S9]; · iexact S9
      isplitl [S11]; · iexact S11
      isplitl [S12]; · iexact S12
      iintro ⟨H0, S8, S9, S11, S12⟩
      isplitl [S8 S9 S10 S11 S12 S13 S14 S15 S16 Hr]
      · isplitl [S8 S9 S10 S11 S12 S13 S14 S15 S16]
        · iexists _, _, _, _, _, _, _, _, _; isplitr; swap
          · isplitl [S8]; · iexact S8
            isplitl [S9]; · iexact S9
            isplitl [S10]; · iexact S10
            isplitl [S11]; · iexact S11
            isplitl [S12]; · iexact S12
            isplitl [S13]; · iexact S13
            isplitl [S14]; · iexact S14
            isplitl [S15]; · iexact S15
            iexact S16
          ipureintro; have := hX.copy (by omega); rw [hpt] at this; rw [hc]; exact this
        iexact Hr
      isplitl [Howes]; · iexact Howes
      isplitl [H0]; · iexact H0
      isplitl [H1]; · iexact H1
      isplitl [H2]; · iexact H2
      isplitl [H3]; · iexact H3
      isplitl [H4]; · iexact H4
      isplitl [H5]; · iexact H5
      iexact H6
    by_cases h2 : t.val < 20
    · iapply (run_second c (grid0.coords t) _ _ _ _ _ _ _ _ _ _ _ _ _ _ _ _ _ _ _ _ _ _ _ _ _ _ _ _ _ _ _ _ (by rw [hc]; omega) (by rw [hc]; exact h2) (blk3 V c t) (blk4 V c t) X8 X10 X11 X12 X13 X16 Set.univ _)
      unfold own
      isplitl [H3]; · iexact H3
      isplitl [H4]; · iexact H4
      isplitl [S8]; · iexact S8
      isplitl [S10]; · iexact S10
      isplitl [S11]; · iexact S11
      isplitl [S12]; · iexact S12
      isplitl [S13]; · iexact S13
      isplitl [S16]; · iexact S16
      iintro ⟨H3, H4, S8, S10, S11, S12, S13, S16⟩
      isplitl [S8 S9 S10 S11 S12 S13 S14 S15 S16 Hr]
      · isplitl [S8 S9 S10 S11 S12 S13 S14 S15 S16]
        · iexists _, _, _, _, _, _, _, _, _; isplitr; swap
          · isplitl [S8]; · iexact S8
            isplitl [S9]; · iexact S9
            isplitl [S10]; · iexact S10
            isplitl [S11]; · iexact S11
            isplitl [S12]; · iexact S12
            isplitl [S13]; · iexact S13
            isplitl [S14]; · iexact S14
            isplitl [S15]; · iexact S15
            iexact S16
          ipureintro; have := hX.step2 (by omega) h2; rw [hpt] at this; rw [hc]; exact this
        iexact Hr
      isplitl [Howes]; · iexact Howes
      isplitl [H0]; · iexact H0
      isplitl [H1]; · iexact H1
      isplitl [H2]; · iexact H2
      isplitl [H3]; · iexact H3
      isplitl [H4]; · iexact H4
      isplitl [H5]; · iexact H5
      iexact H6
    · iapply (run_third c (grid0.coords t) _ _ _ _ _ _ _ _ _ _ _ _ _ _ _ _ _ _ _ _ _ _ _ _ _ _ _ _ _ _ _ _ (by rw [hc]; omega) (by rw [hc]; omega) X8 X13 X14 X15 Set.univ _)
      unfold own
      isplitl [S8]; · iexact S8
      isplitl [S13]; · iexact S13
      isplitl [S14]; · iexact S14
      isplitl [S15]; · iexact S15
      iintro ⟨S8, S13, S14, S15⟩
      isplitl [S8 S9 S10 S11 S12 S13 S14 S15 S16 Hr]
      · isplitl [S8 S9 S10 S11 S12 S13 S14 S15 S16]
        · iexists _, _, _, _, _, _, _, _, _; isplitr; swap
          · isplitl [S8]; · iexact S8
            isplitl [S9]; · iexact S9
            isplitl [S10]; · iexact S10
            isplitl [S11]; · iexact S11
            isplitl [S12]; · iexact S12
            isplitl [S13]; · iexact S13
            isplitl [S14]; · iexact S14
            isplitl [S15]; · iexact S15
            iexact S16
          ipureintro; have := hX.step3 (by omega) (by omega); rw [hc]; exact this
        iexact Hr
      isplitl [Howes]; · iexact Howes
      isplitl [H0]; · iexact H0
      isplitl [H1]; · iexact H1
      isplitl [H2]; · iexact H2
      isplitl [H3]; · iexact H3
      isplitl [H4]; · iexact H4
      isplitl [H5]; · iexact H5
      iexact H6

/-! ## The region over the thread state -/

variable (W W' : Dev nD → Valuation τ sig (Elt F))
variable (d1 : (c : Dev nD) → Dat τ (Elt F) Unit ℕ UU ℕ cfg1 c)

/-- The result's array after the region. -/
abbrev result (c : Dev nD) : Buf (Elt F) ((c : Thread nD τ).loc main_v89) := (dat (fun c b => W c b) c).arrAt 6 cfg0.N

/-- The core's account of what it owes: nothing. -/
abbrev quiet (c : Dev nD) : sProp 𝕄 := iprop(∃ o, owes (c : Thread nD τ) (0 : CellTallies nD τ sig Unit) o)

set_option maxHeartbeats 1000000 in
/-- After the last point each array holds what the valuation `W'` says: an input's what it held, the result's the result. -/
theorem arrays_end (hout : ∀ c, W' c main_v89 = result W c) (hne : ∀ c (b : Ref sig .tc), b ≠ main_v89 → W' c b = W c b)
    (c : Dev nD) (w : Fin cfg0.W) : (dat (fun c b => W c b) c).arrAt w cfg0.N = W' c (Pipeline.arrRef spec0 w) := by
  fin_cases w
  · exact ((dat (fun c b => W c b) c).arrAt_in 0 rfl _).trans (hne c main_arg1 (by decide)).symm
  · exact ((dat (fun c b => W c b) c).arrAt_in 1 rfl _).trans (hne c main_v2 (by decide)).symm
  · exact ((dat (fun c b => W c b) c).arrAt_in 2 rfl _).trans (hne c main_v34 (by decide)).symm
  · exact ((dat (fun c b => W c b) c).arrAt_in 3 rfl _).trans (hne c main_v81 (by decide)).symm
  · exact ((dat (fun c b => W c b) c).arrAt_in 4 rfl _).trans (hne c main_v85 (by decide)).symm
  · exact ((dat (fun c b => W c b) c).arrAt_in 5 rfl _).trans (hne c main_v88 (by decide)).symm
  · exact (hout c).symm

set_option backward.isDefEq.respectTransparency.types false in
/-- The call's region: entered with every unscoped buffer at `W`, left with them at `W'`, which is `W` but for the
    result's array. -/
def reg (hout : ∀ c, W' c main_v89 = result W c) (hne : ∀ c (b : Ref sig .tc), b ≠ main_v89 → W' c b = W c b) :
    Pipeline.RegionSeg (pcfgs (F := F)) adm (fam (dat fun c b => W c b) d1) () defs₀ 𝒱₀ L₀ lv₀ 0 where
  win := (launch0).win.to₀
  block_pos := (launch0).block_pos
  stage_whole := (launch0).stage_whole
  K := PEmpty
  osem k := k.elim
  ho := Pipeline.OwnSemFacts.none _
  hbody c := (body_obligation (fun c b => W c b) c).loose
  hwaits := Pipeline.hwaits_of_owed_zero _ _ _ _ L₀ lv₀ 0 fun _ _ => rfl
  pre c := iprop(StableHlo.held (c : Thread nD τ) (Pipeline.ucRefs τ sig) (W c) ∗ quiet c)
  post c := iprop(StableHlo.held (c : Thread nD τ) (Pipeline.ucRefs τ sig) (W' c) ∗ quiet c)
  X _ := BI.emp
  Y _ := BI.emp
  Z c := Pipeline.unscopedRest (Ix := Unit) (Name := ℕ) (U := UU) (Lvl := ℕ) spec0 c (fun b => W c b)
  hentry c := by
    rw [Pipeline.ownSems0_none, ← Pipeline.unscopedBufs_held]
    have hsplit := Pipeline.arrays_of_unscopedBufs (p := 0) (pcfgs (F := F)) adm (fam (dat fun c b => W c b) d1) (launch0).win (launch0).arr_whole c
      ((fam (dat fun c b => W c b) d1 0 c).share_full fun _ => rfl) (fun b => W c b) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%o, HO⟩; iexists o; isplitr; · ipureintro; exact fun _ _ => Or.inl trivial
      iexact HO
    isplitr; · iempintro
    iexact Hrest
  hin c := by
    rw [show (fam (dat fun c b => W c b) d1 0 c).Φ 0 = inv (fun c b => W c b) c 0 from rfl]
    iintro ⟨-, -, Hr⟩
    ihave H := scoped_split c $$ Hr
    unfold inv
    icases H with ⟨⟨⟨%f8, S8⟩, ⟨%f9, S9⟩, ⟨%f10, S10⟩, ⟨%f11, S11⟩, ⟨%f12, S12⟩, ⟨%f13, S13⟩, ⟨%f14, S14⟩, ⟨%f15, S15⟩, ⟨%f16, S16⟩⟩, Ho⟩
    isplitr [Ho]; swap; · iexact Ho
    iexists f8, f9, f10, f11, f12, f13, f14, f15, f16
    isplitr; · ipureintro; exact Ok.zero
    simp only [owns_whole]
    isplitl [S8]; · iexact S8
    isplitl [S9]; · iexact S9
    isplitl [S10]; · iexact S10
    isplitl [S11]; · iexact S11
    isplitl [S12]; · iexact S12
    isplitl [S13]; · iexact S13
    isplitl [S14]; · iexact S14
    isplitl [S15]; · iexact S15
    iexact S16
  hout c := by
    rw [Pipeline.ownSems0_none, show (fam (dat fun c b => W c b) d1 0 c).Φ (Fin.last _) = inv (fun c b => W c b) c 28 from rfl]
    unfold inv
    simp only [owns_whole]
    iintro ⟨⟨%X8, %X9, %X10, %X11, %X12, %X13, %X14, %X15, %X16, -, S8, S9, S10, S11, S12, S13, S14, S15, S16⟩, Ho⟩
    isplitr; · iempintro
    isplitr; · iempintro
    iapply Ho
    unfold scratch
    isplitl [S8]; · iexists X8; iexact S8
    isplitl [S9]; · iexists X9; iexact S9
    isplitl [S10]; · iexists X10; iexact S10
    isplitl [S11]; · iexists X11; iexact S11
    isplitl [S12]; · iexists X12; iexact S12
    isplitl [S13]; · iexists X13; iexact S13
    isplitl [S14]; · iexists X14; iexact S14
    isplitl [S15]; · iexists X15; iexact S15
    iexists X16; iexact S16
  hexit c := by
    rw [← Pipeline.unscopedBufs_held]
    have hjoin := Pipeline.unscopedBufs_of_arrays (p := 0) (pcfgs (F := F)) adm (Ix := Unit) (Name := ℕ) (U := UU) (Lvl := ℕ) (launch0).win (launch0).arr_whole c
      (fam (dat fun c b => W c b) d1) ((fam (dat fun c b => W c b) d1 0 c).share_full fun _ => rfl) (fun b => W c b) (fun b => W' c b)
      ((fam (dat fun c b => W c b) d1 0 c).arrAt · cfg0.N)
      (arrays_end W W' hout hne c)
      (fun b hb => hne c b fun h => hb (h ▸ Finset.mem_image.mpr ⟨6, Finset.mem_univ _, rfl⟩))
    iintro ⟨Ha, HO, -, Hrest⟩
    imodintro
    isplitl [Ha Hrest]
    · iapply hjoin; isplitl [Ha] <;> iassumption
    unfold Pipeline.Dat.owesAt Pipeline.owesWithin
    icases HO with ⟨%o, -, HO⟩; iexists o; iexact HO

end Cert.Proof.Mega

end
-- ==== Proof.Launch.lean ====
/-
  The whole program's run: every buffer that outlives the calls ends at the last of the valuations the generated module
  chains, with the two calls' results filled in (`outs`). Stated for any reading of the floats.
-/
module

public import proofs.«01_k».proof.Proof.HeadRegion
public import proofs.«01_k».proof.Proof.MegaRegion

@[expose] public section

set_option maxRecDepth 4096

noncomputable section

namespace Cert.Proof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Seg)

variable {F : FTy → Type} [FloatOps F]

local notation "𝕄" => MT nD τ sig Unit (Elt F) ℕ UU ℕ

variable (m : (ℓ : Loc nD τ sig) → Buf (Elt F) ℓ)

/-- What the first call leaves in its result's array. -/
def gOut (c : Dev nD) : Buf (Elt F) ((c : Thread nD τ).loc main_v89) := Mega.result (fun c => V7 m c) c

/-- The contents the calls leave, the first one's result filled in. -/
def outs0 : Outs (F := F) := fun _ => Function.update (fun r c => m ((c : Thread nD τ).loc r)) main_v89 (gOut m)

/-- What the second call leaves in its result's array. -/
def yOut (c : Dev nD) : Buf (Elt F) ((c : Thread nD τ).loc main_v94) := Head.result (fun c => V9 m (outs0 m) c) c

/-- The contents the calls leave. -/
def outs : Outs (F := F) := fun n => Function.update (outs0 m n) main_v94 (yOut m)

/-- The second call's result, among what the calls leave. -/
theorem outs_v94 (n : ℕ) (c : Dev nD) : outs m n main_v94 c = yOut m c := by
  unfold outs; rw [Function.update_self]

/-- The first call's result, before the second's is filled in. -/
theorem outs0_v89 (n : ℕ) (c : Dev nD) : outs0 m n main_v89 c = gOut m c := by
  unfold outs0; rw [Function.update_self]

/-- The first call's result, among what the calls leave. -/
theorem outs_v89 (n : ℕ) (c : Dev nD) : outs m n main_v89 c = gOut m c := by
  unfold outs; rw [Function.update_of_ne (by decide), outs0_v89]

/-- What the second call is given does not depend on its own result. -/
theorem V9_outs (c : Dev nD) : V9 m (outs m) c = V9 m (outs0 m) c := by
  unfold V9 V8
  rw [outs_v89, outs0_v89]

/-- After the first call its result's array holds what it leaves. -/
theorem V8_v89 (c : Dev nD) : V8 m (outs m) c main_v89 = gOut m c := by
  simp only [V8, Function.update_self, outs_v89]

/-- After the second call its result's array holds what it leaves. -/
theorem V10_v94 (c : Dev nD) : V10 m (outs m) c main_v94 = yOut m c := by
  simp only [V10, Function.update_self, outs_v94]

/-- The second call's result, entered from the valuation after the host's last stretch. -/
theorem yOut_eq (c : Dev nD) : V10 m (outs m) c main_v94 = Head.result (fun c => V9 m (outs m) c) c := by
  rw [V10_v94, yOut]
  rw [show (fun c => V9 m (outs m) c) = fun c => V9 m (outs0 m) c from funext (V9_outs m)]

/-- The first call's proof data. -/
abbrev d0 (c : Dev nD) := Mega.dat (F := F) (fun c b => V7 m c b) c
/-- The second call's proof data. -/
abbrev d1 (c : Dev nD) := Head.dat (F := F) (fun c b => V9 m (outs m) c b) c

/-- The first call's region. -/
def R0 : Pipeline.RegionSeg (pcfgs (F := F)) adm (fam (d0 m) (d1 m)) () defs₀ 𝒱₀ L₀ lv₀ 0 :=
  Mega.reg (fun c => V7 m c) (fun c => V8 m (outs m) c) (d1 m) (V8_v89 m) fun c b hb => V8_of m (outs m) c b (by simp [hb])

/-- The second call's region. -/
def R1 : Pipeline.RegionSeg (pcfgs (F := F)) adm (fam (d0 m) (d1 m)) () defs₀ 𝒱₀ L₀ lv₀ 1 :=
  Head.reg (fun c => V9 m (outs m) c) (fun c => V10 m (outs m) c) (d0 m) (yOut_eq m) fun c b hb => V10_of m (outs m) c b (by simp [hb])

/-- A core's share of the launch: its unscoped buffers at the first valuation, nothing owed. -/
theorem enter (ρ : Dev nD → PrngReg) (c : Dev nD) :
    (iprop(unscopedBufs c (fun b => m ((c.tc : Thread nD τ).loc b)) ∗ unscopedSems0 c
      ∗ owes (c.tc : Thread nD τ) ((0 : Dev nD → CellTallies nD τ sig Unit) c) ∅ ∗ Pipeline.launchCred 0 c ∗ prngReg c (ρ c) ∗ (iprop(emp) : sProp 𝕄)) : sProp 𝕄)
      ⊢ iprop(StableHlo.held (c : Thread nD τ) (Pipeline.ucRefs τ sig) (V0 m c) ∗ Mega.quiet c) := by
  rw [← Pipeline.unscopedBufs_held (Ix := Unit) (Name := ℕ) (U := UU) (Lvl := ℕ) c (V0 m c)]
  iintro ⟨Hb, -, Ho, -⟩
  isplitl [Hb]; · iexact Hb
  iexists ∅
  iexact Ho

set_option backward.isDefEq.respectTransparency.types false in
/-- Every weakly fair run ends with every buffer that outlives the calls at the last valuation and every counter at zero. -/
theorem run_all (ρ : Dev nD → PrngReg) :
    θ_run defs (onTc (τ := τ) (main (F := F))) ⟨m, fun _ => 0, ρ⟩
      (fun r => (∀ c : Dev nD, ∀ b ∈ Pipeline.ucRefs τ sig, r.2.mem (c, b) = V10 m (outs m) c b) ∧ r.2.sem = fun _ => 0) := by
  refine Pipeline.θ_run_regions_kit_dev_sems (pcfgs (F := F)) adm (fam (d0 m) (d1 m)) () cellOf_inj emb₁ defs₀ 𝒱₀ L₀ lv₀ m ρ main
    (segs m (outs m) 𝒱₀ L₀ lv₀ (fun _ => Mega.quiet) () (fam (d0 m) (d1 m)) (R0 m) (R1 m))
    (fun c Q => by
      rewrite [main_chain c, Seg.run_eq_chain,
        show (segs m (outs m) 𝒱₀ L₀ lv₀ (fun _ => Mega.quiet) () (fam (d0 m) (d1 m)) (R0 m) (R1 m) c).map Seg.prog = [
          StableHlo.seq hostOps0, StableHlo.seq hostOps0_1, StableHlo.seq hostOps0_2, StableHlo.seq hostOps0_3,
          StableHlo.seq hostOps0_4, StableHlo.seq hostOps0_5, StableHlo.seq hostOps0_6,
          Prog.lift (.customCall (Pipeline.entry 0) ()), StableHlo.seq hostOps1,
          Prog.lift (.customCall (Pipeline.entry 1) ()) ] from rfl]
      dsimp (config := { failIfUnchanged := false }) only
      exact .rfl)
    (fun c => by simp only [segs, Seg.pipes_host, Seg.pipes_region, Seg.pipes_nil]; decide) 0 (fun _ _ => rfl)
    (fun _ => iprop(emp)) (initOf (Pipeline.cells cfgs cellOf_inj) (Pipeline.launchToks cfgs cellOf_inj)) ?_
    (T₀ := fun c => iprop(StableHlo.held (c : Thread nD τ) (Pipeline.ucRefs τ sig) (V0 m c) ∗ Mega.quiet c))
    (Tₙ := fun c => StableHlo.held (c : Thread nD τ) (Pipeline.ucRefs τ sig) (V10 m (outs m) c))
    (hch := fun c => ⟨.rfl, .rfl, .rfl, .rfl, .rfl, .rfl, .rfl, .rfl, .rfl, .rfl, .rfl⟩)
    (hinit := ?_) (QY := fun c s => ∀ b ∈ Pipeline.ucRefs τ sig, s.mem (c, b) = V10 m (outs m) c b)
    (hfin := fun c s' => ?_) (hQ := fun _ h hz => ⟨h, funext fun g => hz g (.inr (regions_no_unscoped g.2))⟩)
  · iintro Hu
    imodintro
    isplitl [Hu]
    · iapply (show (ownU (initOf (Pipeline.cells cfgs cellOf_inj) (Pipeline.launchToks cfgs cellOf_inj)) : sProp 𝕄)
        ⊢ BI.own (emb₁ (initOf (Pipeline.cells cfgs cellOf_inj) (Pipeline.launchToks cfgs cellOf_inj))) from .rfl)
      iexact Hu
    · iapply (show (BI.emp : sProp 𝕄) ⊢ bigSep Finset.univ (fun _ : Dev nD => (BI.emp : sProp 𝕄)) from by rw [BI.bigSep_emp_const])
      iempintro
  · have hsplit : (bigSep Finset.univ fun c : Dev nD => iprop(unscopedBufs c (fun b => m ((c.tc : Thread nD τ).loc b)) ∗ unscopedSems0 c
          ∗ owes (c.tc : Thread nD τ) ((0 : Dev nD → CellTallies nD τ sig Unit) c) ∅ ∗ Pipeline.launchCred 0 c ∗ prngReg c (ρ c) ∗ (iprop(emp) : sProp 𝕄)))
        ⊢ (bigSep Finset.univ fun c : Dev nD => iprop(StableHlo.held (c : Thread nD τ) (Pipeline.ucRefs τ sig) (V0 m c) ∗ Mega.quiet c) : sProp 𝕄) := by
      exact bigSep_mono fun c _ => enter m ρ c
    iintro ⟨H, -⟩
    imodintro
    iapply hsplit
    iexact H
  · unfold StableHlo.held
    iintro ⟨Hh, HSI⟩
    ihave Hr := (pointsTo_read_all (Pipeline.ucRefs τ sig) (fun b => ((c : Thread nD τ).1, b)) (V10 m (outs m) c) s') $$ [Hh HSI]
    · isplitl [Hh] <;> iassumption
    icases Hr with ⟨%h, HSI⟩
    imodintro
    isplitr
    · ipureintro; exact h
    · iexact HSI

end Cert.Proof

end
-- ==== Proof.Same.lean ====
/-
  The printed kernel and its ideal reading are one program text: the same buffers, the same windows, the same bodies. So
  what is proved of the one for any reading of the floats holds of the other.
-/
module

public import proofs.«01_k».proof.Proof.Gen.Kernel
public import proofs.«01_k».proof.Proof.Gen.KernelIdeal

@[expose] public section

set_option maxRecDepth 65536
set_option maxHeartbeats 0

noncomputable section

namespace Cert.Proof.Same

open Idealize.ShloMosaic

variable {F : FTy → Type} [FloatOps F]

/-- The first body. -/
theorem mega_eq : @Cert.Kernel.cc0__mega_body F _ Cert.Kernel.Gen.facts = @Cert.KernelIdeal.cc0__mega_body F _ Cert.KernelIdeal.Gen.facts := by with_unfolding_all rfl
/-- The second body. -/
theorem head_eq : @Cert.Kernel.cc1__head_body F _ Cert.Kernel.Gen.facts = @Cert.KernelIdeal.cc1__head_body F _ Cert.KernelIdeal.Gen.facts := by with_unfolding_all rfl

/-- The host program. -/
theorem main_eq : @Cert.Kernel.main F _ Cert.Kernel.Gen.facts = @Cert.KernelIdeal.main F _ Cert.KernelIdeal.Gen.facts := by with_unfolding_all rfl

/-- The table of bodies. -/
theorem defs₀_eq : @Cert.Kernel.defs₀ F _ Cert.Kernel.Gen.facts = @Cert.KernelIdeal.defs₀ F _ Cert.KernelIdeal.Gen.facts := by
  refine congrArg Defs.onTc (funext fun l => ?_)
  match l with
  | ⟨0, _⟩ => with_unfolding_all rfl
  | ⟨1, _⟩ => with_unfolding_all rfl
  | ⟨_ + 2, h⟩ => exact absurd h (Nat.not_lt.2 (Nat.le_add_left _ _))

end Cert.Proof.Same

end
-- ==== Proof.Frames.lean ====
/-
  The three programs run to the end, leave their arguments as they were and every semaphore counter at zero.
-/
module

public import proofs.«01_k».proof.Defs
public import proofs.«01_k».proof.Proof.Gen.ReferenceIdeal
public import proofs.«01_k».proof.Proof.Gen.ReferenceIdeal.Run
public import proofs.«01_k».proof.Proof.Launch
public import proofs.«01_k».proof.Proof.Same

@[expose] public section

noncomputable section

namespace Cert.Proof

open Idealize.ShloMosaic Idealize.ShloMosaic.TcCoe
open Idealize.SL.Sem

section Ideal
open Cert.KernelIdeal Cert.KernelIdeal.Gen
variable {F : FTy → Type} [FloatOps F]

/-- What a terminating run leaves in the arguments: what was there. -/
theorem args_kept (m : (ℓ : Loc nD τ sig) → Buf (Elt F) ℓ) (mem : (ℓ : Loc nD τ sig) → Buf (Elt F) ℓ)
    (h : ∀ c : Dev nD, ∀ b ∈ Pipeline.ucRefs τ sig, mem (c, b) = V10 m (outs m) c b) (c : Dev nD) :
    mem ((c.tc : Thread nD τ).loc main_arg0) = m ((c.tc : Thread nD τ).loc main_arg0)
      ∧ mem ((c.tc : Thread nD τ).loc main_arg1) = m ((c.tc : Thread nD τ).loc main_arg1)
      ∧ mem ((c.tc : Thread nD τ).loc main_arg2) = m ((c.tc : Thread nD τ).loc main_arg2)
      ∧ mem ((c.tc : Thread nD τ).loc main_arg3) = m ((c.tc : Thread nD τ).loc main_arg3)
      ∧ mem ((c.tc : Thread nD τ).loc main_arg4) = m ((c.tc : Thread nD τ).loc main_arg4)
      ∧ mem ((c.tc : Thread nD τ).loc main_arg5) = m ((c.tc : Thread nD τ).loc main_arg5)
      ∧ mem ((c.tc : Thread nD τ).loc main_arg6) = m ((c.tc : Thread nD τ).loc main_arg6)
      ∧ mem ((c.tc : Thread nD τ).loc main_arg7) = m ((c.tc : Thread nD τ).loc main_arg7)
      ∧ mem ((c.tc : Thread nD τ).loc main_arg8) = m ((c.tc : Thread nD τ).loc main_arg8)
      ∧ mem ((c.tc : Thread nD τ).loc main_arg9) = m ((c.tc : Thread nD τ).loc main_arg9)
      ∧ mem ((c.tc : Thread nD τ).loc main_arg10) = m ((c.tc : Thread nD τ).loc main_arg10)
      ∧ mem ((c.tc : Thread nD τ).loc main_arg11) = m ((c.tc : Thread nD τ).loc main_arg11) := by
  have at_arg (b : Ref sig .tc) (hb : (Proc.devRef (τ := τ) .tc b).isScoped = false) :
      mem ((c.tc : Thread nD τ).loc b) = V10 m (outs m) c (Proc.devRef .tc b) :=
    h c (Proc.devRef .tc b) (Finset.mem_filter.mpr ⟨StableHlo.devRef_mem_tcRefs b, by rw [hb]; exact Bool.false_ne_true⟩)
  exact ⟨(at_arg main_arg0 rfl).trans (V10_main_arg0 m (outs m) c),
    (at_arg main_arg1 rfl).trans (V10_main_arg1 m (outs m) c),
    (at_arg main_arg2 rfl).trans (V10_main_arg2 m (outs m) c),
    (at_arg main_arg3 rfl).trans (V10_main_arg3 m (outs m) c),
    (at_arg main_arg4 rfl).trans (V10_main_arg4 m (outs m) c),
    (at_arg main_arg5 rfl).trans (V10_main_arg5 m (outs m) c),
    (at_arg main_arg6 rfl).trans (V10_main_arg6 m (outs m) c),
    (at_arg main_arg7 rfl).trans (V10_main_arg7 m (outs m) c),
    (at_arg main_arg8 rfl).trans (V10_main_arg8 m (outs m) c),
    (at_arg main_arg9 rfl).trans (V10_main_arg9 m (outs m) c),
    (at_arg main_arg10 rfl).trans (V10_main_arg10 m (outs m) c),
    (at_arg main_arg11 rfl).trans (V10_main_arg11 m (outs m) c)⟩

/-- The run, read at the arguments and the counters. -/
theorem run_args (m : (ℓ : Loc nD τ sig) → Buf (Elt F) ℓ) (ρ : Dev nD → PrngReg) :
    θ_run defs (onTc (τ := τ) main) ⟨m, fun _ => 0, ρ⟩ (fun r => (∀ c : Dev nD,
        r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4)
        ∧ r.2.mem ((c.tc : Thread nD τ).loc main_arg5) = m ((c.tc : Thread nD τ).loc main_arg5)
        ∧ r.2.mem ((c.tc : Thread nD τ).loc main_arg6) = m ((c.tc : Thread nD τ).loc main_arg6)
        ∧ r.2.mem ((c.tc : Thread nD τ).loc main_arg7) = m ((c.tc : Thread nD τ).loc main_arg7)
        ∧ r.2.mem ((c.tc : Thread nD τ).loc main_arg8) = m ((c.tc : Thread nD τ).loc main_arg8)
        ∧ r.2.mem ((c.tc : Thread nD τ).loc main_arg9) = m ((c.tc : Thread nD τ).loc main_arg9)
        ∧ r.2.mem ((c.tc : Thread nD τ).loc main_arg10) = m ((c.tc : Thread nD τ).loc main_arg10)
        ∧ r.2.mem ((c.tc : Thread nD τ).loc main_arg11) = m ((c.tc : Thread nD τ).loc main_arg11)) ∧ r.2.sem = fun _ => 0) :=
  (θ_run _ _ _).mono (fun r h => ⟨args_kept m r.2.mem h.1, h.2⟩) (run_all m ρ)

end Ideal

/-- The reference's frame: every run ends, without a fault, and changes no argument. -/
theorem quiescent_reference : @quiescent_ReferenceIdeal Cert.ReferenceIdeal.Gen.facts := fun m g _ =>
  (θ_run _ _ _).mono (fun r h => ⟨fun c => (h c).2, sem_eq_zero_of_no_sems (by decide) r.2⟩)
    (Cert.ReferenceIdeal.Value.run (F := Ideal) m g)

/-- The frame of the kernel's ideal reading. -/
theorem quiescent_kernel_ideal : @quiescent_KernelIdeal Cert.KernelIdeal.Gen.facts := fun m g _ => run_args m g

set_option maxRecDepth 65536 in
set_option maxHeartbeats 0 in
/-- The frame of the kernel as printed. -/
theorem quiescent_kernel : @quiescent_Kernel Cert.Kernel.Gen.facts := by
  intro m g _
  have hd : @Cert.Kernel.defs Bits _ Cert.Kernel.Gen.facts = @Cert.KernelIdeal.defs Bits _ Cert.KernelIdeal.Gen.facts := by
    unfold Cert.Kernel.defs
    rw [Same.defs₀_eq]
    with_unfolding_all rfl
  have hr := run_args (F := Bits) m g
  rw [Same.main_eq, hd]
  exact hr

end Cert.Proof

end
-- ==== Proof.Alg.lean ====
/-
  The two ways of computing a graph convolution with three Chebyshev terms, over the reals, and the sums that a
  block-diagonal matrix takes part in.
-/
module

public import Idealize.ShloMosaic.Lib.Pipeline.ValueKit

@[expose] public section

noncomputable section

namespace Cert.Proof

variable {N C : ℕ}

/-- A graph convolution at a node, one batch and one output channel: `x` the features, `a` the graph matrix, `w` the
    weights of the three terms `x`, `a x`, `2 a (a x) - x`. -/
def conv (x : Fin N → Fin C → ℝ) (a : Fin N → Fin N → ℝ) (w : Fin 3 → Fin C → ℝ) (n : Fin N) : ℝ :=
  (∑ f, x n f * w 0 f) + (∑ f, (∑ k, x k f * a n k) * w 1 f)
    + ∑ f, (2 * (∑ k, (∑ l, x l f * a k l) * a n k) - x n f) * w 2 f

/-- Features times weights first: the graph matrix then multiplies columns of the output's width. -/
theorem conv_eq (x : Fin N → Fin C → ℝ) (a : Fin N → Fin N → ℝ) (w : Fin 3 → Fin C → ℝ) (n : Fin N) :
    (∑ f, x n f * (w 0 f - w 2 f)) + (∑ k, a n k * ∑ f, x k f * w 1 f)
      + 2 * (∑ k, a n k * ∑ l, a k l * ∑ f, x l f * w 2 f) = conv x a w n := by
  have e1 : ∑ k, a n k * ∑ f, x k f * w 1 f = ∑ f, (∑ k, x k f * a n k) * w 1 f := by
    simp only [Finset.mul_sum, Finset.sum_mul]
    rw [Finset.sum_comm]
    exact Finset.sum_congr rfl fun _ _ => Finset.sum_congr rfl fun _ _ => by ring
  have e2 : ∑ k, a n k * ∑ l, a k l * ∑ f, x l f * w 2 f = ∑ f, (∑ k, (∑ l, x l f * a k l) * a n k) * w 2 f := by
    simp only [Finset.mul_sum, Finset.sum_mul]
    rw [Finset.sum_comm (s := (Finset.univ : Finset (Fin C)))]
    refine Finset.sum_congr rfl fun k _ => ?_
    rw [Finset.sum_comm]
    exact Finset.sum_congr rfl fun _ _ => Finset.sum_congr rfl fun _ _ => by ring
  rw [e1, e2]
  simp only [conv, sub_mul, mul_sub, Finset.sum_sub_distrib, mul_assoc, ← Finset.mul_sum]
  ring

/-- The identity matrix of the eight batches. -/
def eye (p q : Fin 8) : EReal := if p = q then 1 else 0

/-- A product with a block-diagonal matrix of eight equal blocks of `C` rows: only the column's own block counts. -/
theorem sum_block {K : ℕ} (hK : K = 8 * C) (g : Fin 8 → Fin C → EReal) (w : Fin C → EReal) (b : Fin 8)
    (F : Fin K → EReal)
    (hF : ∀ (k : Fin K) (h1 : k.val / C < 8) (h2 : k.val % C < C),
      F k = g ⟨k.val / C, h1⟩ ⟨k.val % C, h2⟩ * (eye ⟨k.val / C, h1⟩ b * w ⟨k.val % C, h2⟩)) :
    ∑ k, F k = ∑ f, g b f * w f := by
  rw [Fin.sum_divmod_congr (A := 8) (S := C) (f := fun i f => g i f * (eye i b * w f)) hF hK,
    Finset.sum_eq_single b]
  · simp [eye]
  · intro i _ hi
    simp [eye, hi]
  · simp

/-- A sum of real numbers among the extended reals. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A sum of products of real numbers among the extended reals. -/
theorem coe_dot {ι : Type*} [Fintype ι] (f g : ι → ℝ) : ∑ i, (f i : EReal) * (g i : EReal) = ((∑ i, f i * g i : ℝ) : EReal) := by
  rw [coe_sum]
  simp only [EReal.coe_mul]

/-- `sum_block` for real numbers. -/
theorem sum_block_real {K : ℕ} (hK : K = 8 * C) (g : Fin 8 → Fin C → ℝ) (w : Fin C → ℝ) (b : Fin 8) (F : Fin K → EReal)
    (hF : ∀ (k : Fin K) (h1 : k.val / C < 8) (h2 : k.val % C < C),
      F k = (g ⟨k.val / C, h1⟩ ⟨k.val % C, h2⟩ : EReal) * (eye ⟨k.val / C, h1⟩ b * (w ⟨k.val % C, h2⟩ : EReal))) :
    ∑ k, F k = ((∑ f, g b f * w f : ℝ) : EReal) := by
  rw [sum_block hK (fun i f => (g i f : EReal)) (fun f => (w f : EReal)) b F hF, coe_dot]

/-- The reference's convolution over the extended reals, of real numbers. -/
theorem conv_coe (x : Fin N → Fin C → ℝ) (a : Fin N → Fin N → ℝ) (w : Fin 3 → Fin C → ℝ) (n : Fin N) :
    (∑ f, (x n f : EReal) * (w 0 f : EReal)) + (∑ f, (∑ k, (x k f : EReal) * (a n k : EReal)) * (w 1 f : EReal))
      + ∑ f, (((2 : ℝ) : EReal) * (∑ k, (∑ l, (x l f : EReal) * (a k l : EReal)) * (a n k : EReal)) - (x n f : EReal)) * (w 2 f : EReal)
      = ((conv x a w n : ℝ) : EReal) := by
  simp only [conv, coe_dot, ← EReal.coe_mul, ← EReal.coe_sub, ← coe_sum, ← EReal.coe_add]

/-- The kernel's convolution over the extended reals, of real numbers. -/
theorem fused_coe (x : Fin N → Fin C → ℝ) (a : Fin N → Fin N → ℝ) (w : Fin 3 → Fin C → ℝ) (n : Fin N) :
    ((∑ f, x n f * (w 0 f - w 2 f) : ℝ) : EReal) + ((∑ k, a n k * ∑ f, x k f * w 1 f : ℝ) : EReal)
      + ((2 : ℝ) : EReal) * (∑ k, (a n k : EReal) * ((∑ l, a k l * ∑ f, x l f * w 2 f : ℝ) : EReal)) = ((conv x a w n : ℝ) : EReal) := by
  rw [← conv_eq, coe_dot, ← EReal.coe_mul, ← EReal.coe_add, ← EReal.coe_add]

end Cert.Proof

end
-- ==== Proof.Host.lean ====
/-
  What the two kernels are given: the host program's arrays, at an index.
-/
module

public import proofs.«01_k».proof.Proof.Alg
public import proofs.«01_k».proof.Proof.Gen.KernelIdeal.Regions
public import Idealize.ShloMosaic.Lib.StableHlo.ReadAt
public import Idealize.ShloMosaic.Lib.Pipeline.ValueKit

@[expose] public section

set_option maxRecDepth 16384

noncomputable section

namespace Cert.Proof.HostVals

open Cert.KernelIdeal Cert.KernelIdeal.Gen
open Idealize.ShloMosaic Idealize.ShloMosaic.TcCoe

variable (m : (ℓ : Loc nD τ sig) → Buf (Elt Ideal) ℓ) (c : Dev nD)

/-- The first layer's weights, exact. -/
abbrev w1 (i : Fin 3) (f : Fin 64) (o : Fin 32) : EReal := m ((c.tc : Thread nD τ).loc main_arg2) (ix3 i f o)
/-- The second layer's weights, exact. -/
abbrev w2 (i : Fin 3) (f : Fin 32) (o : Fin 16) : EReal := m ((c.tc : Thread nD τ).loc main_arg4) (ix3 i f o)

/-- Equality of two small numbers, as the host program computes it for an identity matrix. -/
theorem eye_at : ∀ p q : Fin 8,
    (FloatOps.uitofp (F := Ideal) .f32 (IntOp.cmpi .eq (IntOp.addi (BitVec.ofNat 32 p.val) 0#32) (BitVec.ofNat 32 q.val)) : EReal)
      = eye p q := by
  intro p q
  have h : IntOp.cmpi .eq (IntOp.addi (BitVec.ofNat 32 p.val) 0#32) (BitVec.ofNat 32 q.val) = if p = q then 1#1 else 0#1 := by
    revert p q
    decide
  rw [h, eye]
  split <;> simp [FloatOps.uitofp]

/-- The features: node by (batch, feature). -/
theorem xv_at (n : Fin 4096) (j : Fin 512) : (V7 m c main_v2 (ix2 n j) : EReal)
    = m ((c.tc : Thread nD τ).loc main_arg0) (ix3 ⟨j.val / 64, by omega⟩ n ⟨j.val % 64, by omega⟩) := by
  after_reads_at

/-- The first bias, once for every batch. -/
theorem b1_at (j : Fin 256) : (V7 m c main_v85 (ix2 0 j) : EReal)
    = m ((c.tc : Thread nD τ).loc main_arg3) (ix1 ⟨j.val % 32, by omega⟩) := by
  after_reads_at

/-- The second bias, every entry for all batches. -/
theorem b2_at (j : Fin 128) : (V7 m c main_v88 (ix2 0 j) : EReal)
    = m ((c.tc : Thread nD τ).loc main_arg5) (ix1 ⟨j.val / 8, by omega⟩) := by
  after_reads_at

/-- The block-diagonal matrix of the first layer's second weight. -/
theorem v11_at (k : Fin 512) (j : Fin 256) : (V6 m c main_v11 (ix2 k j) : EReal)
    = eye ⟨k.val / 64, by omega⟩ ⟨j.val / 32, by omega⟩ * w1 m c 1 ⟨k.val % 64, by omega⟩ ⟨j.val % 32, by omega⟩ := by
  rw [← eye_at]
  after_reads_at

/-- The block-diagonal matrix of the first layer's third weight. -/
theorem v20_at (k : Fin 512) (j : Fin 256) : (V6 m c main_v20 (ix2 k j) : EReal)
    = eye ⟨k.val / 64, by omega⟩ ⟨j.val / 32, by omega⟩ * w1 m c 2 ⟨k.val % 64, by omega⟩ ⟨j.val % 32, by omega⟩ := by
  rw [← eye_at]
  after_reads_at

/-- The block-diagonal matrix of the first layer's first weight less its third. -/
theorem v32_at (k : Fin 512) (j : Fin 256) : (V6 m c main_v32 (ix2 k j) : EReal)
    = eye ⟨k.val / 64, by omega⟩ ⟨j.val / 32, by omega⟩ * (w1 m c 0 ⟨k.val % 64, by omega⟩ ⟨j.val % 32, by omega⟩
        - w1 m c 2 ⟨k.val % 64, by omega⟩ ⟨j.val % 32, by omega⟩) := by
  rw [← eye_at]
  after_reads_at

/-- The combined first-layer weights, their first third. -/
theorem ws1_at1 (k : Fin 512) (j : Fin 256) : (V7 m c main_v34 (ix2 k ⟨j.val, by omega⟩) : EReal)
    = eye ⟨k.val / 64, by omega⟩ ⟨j.val / 32, by omega⟩ * w1 m c 1 ⟨k.val % 64, by omega⟩ ⟨j.val % 32, by omega⟩ := by
  after_reads_at
  rw [StableHlo.upto_zero]
  exact v11_at m c k j

/-- Their second third. -/
theorem ws1_at2 (k : Fin 512) (j : Fin 256) : (V7 m c main_v34 (ix2 k ⟨256 + j.val, by omega⟩) : EReal)
    = eye ⟨k.val / 64, by omega⟩ ⟨j.val / 32, by omega⟩ * w1 m c 2 ⟨k.val % 64, by omega⟩ ⟨j.val % 32, by omega⟩ := by
  after_reads_at
  rw [StableHlo.upto_zero]
  exact v20_at m c k j

/-- Their last third. -/
theorem ws1_at3 (k : Fin 512) (j : Fin 256) : (V7 m c main_v34 (ix2 k ⟨512 + j.val, by omega⟩) : EReal)
    = eye ⟨k.val / 64, by omega⟩ ⟨j.val / 32, by omega⟩ * (w1 m c 0 ⟨k.val % 64, by omega⟩ ⟨j.val % 32, by omega⟩
        - w1 m c 2 ⟨k.val % 64, by omega⟩ ⟨j.val % 32, by omega⟩) := by
  after_reads_at
  rw [dif_neg (by omega), dif_neg (by omega), StableHlo.upto_zero, show (⟨512 + j.val - 256 - 256, by omega⟩ : Fin 256) = j from Fin.ext (by simp; omega)]
  exact v32_at m c k j

/-- The combined second-layer weights, their first third. -/
theorem ws2_at1 (k : Fin 256) (j : Fin 128) : (V7 m c main_v81 (ix2 k ⟨j.val, by omega⟩) : EReal)
    = eye ⟨k.val / 32, by omega⟩ ⟨j.val % 8, by omega⟩ * w2 m c 1 ⟨k.val % 32, by omega⟩ ⟨j.val / 8, by omega⟩ := by
  rw [← eye_at]
  after_reads_at
  after_reads_at

/-- Their second third. -/
theorem ws2_at2 (k : Fin 256) (j : Fin 128) : (V7 m c main_v81 (ix2 k ⟨128 + j.val, by omega⟩) : EReal)
    = eye ⟨k.val / 32, by omega⟩ ⟨j.val % 8, by omega⟩ * w2 m c 2 ⟨k.val % 32, by omega⟩ ⟨j.val / 8, by omega⟩ := by
  rw [← eye_at]
  after_reads_at
  after_reads_at

/-- Their last third. -/
theorem ws2_at3 (k : Fin 256) (j : Fin 128) : (V7 m c main_v81 (ix2 k ⟨256 + j.val, by omega⟩) : EReal)
    = eye ⟨k.val / 32, by omega⟩ ⟨j.val % 8, by omega⟩ * (w2 m c 0 ⟨k.val % 32, by omega⟩ ⟨j.val / 8, by omega⟩
        - w2 m c 2 ⟨k.val % 32, by omega⟩ ⟨j.val / 8, by omega⟩) := by
  rw [← eye_at]
  after_reads_at
  rw [dif_neg (by omega), dif_neg (by omega), show (⟨256 + j.val - 128 - 128, by omega⟩ : Fin 128) = j from Fin.ext (by simp; omega)]
  after_reads_at

/-- The graph matrix is given as it came. -/
theorem a_eq : V7 m c main_arg1 = m ((c.tc : Thread nD τ).loc main_arg1) := by
  after_reads_simp

variable (outs : Outs (F := Ideal))

/-- The second kernel is given the first one's result, flattened: row `n * 16 + o`, column the batch. -/
theorem v90_at (k : Fin 65536) (r : Fin 8) : (V9 m outs c main_v90 (ix2 k r) : EReal)
    = V8 m outs c main_v89 (ix2 ⟨k.val / 16, by omega⟩ ⟨k.val % 16 * 8 + r.val, by omega⟩) := by
  after_reads_at

/-- An argument the host program does not write is still what it was after the first call. -/
theorem kept (r : Ref sig .tc) (h8 : r ∉ ([main_v89] : List (Ref sig .tc))) (h7 : r ∉ hostOps0_6_W) (h6 : r ∉ hostOps0_5_W) (h5 : r ∉ hostOps0_4_W)
    (h4 : r ∉ hostOps0_3_W) (h3 : r ∉ hostOps0_2_W) (h2 : r ∉ hostOps0_1_W) (h1 : r ∉ hostOps0_W) :
    V8 m outs c r = m ((c.tc : Thread nD τ).loc r) :=
  (V8_of m outs c r h8).trans <| (V7_of m c r h7).trans <| (V6_of m c r h6).trans <| (V5_of m c r h5).trans <|
    (V4_of m c r h4).trans <| (V3_of m c r h3).trans <| (V2_of m c r h2).trans <| (V1_of m c r h1).trans rfl

/-- The second call is given the first dense bias as one row. -/
theorem v91_eq : V9 m outs c main_v91 = shapeCast _ (m ((c.tc : Thread nD τ).loc main_arg7)) shapeCasts_S512_S1x512 := by
  rw [← kept m c outs main_arg7 (by decide) (by decide) (by decide) (by decide) (by decide) (by decide) (by decide) (by decide)]
  after_reads_simp
  rfl

/-- The second call is given the second dense bias as one row. -/
theorem v92_eq : V9 m outs c main_v92 = shapeCast _ (m ((c.tc : Thread nD τ).loc main_arg9)) shapeCasts_S128_S1x128 := by
  rw [← kept m c outs main_arg9 (by decide) (by decide) (by decide) (by decide) (by decide) (by decide) (by decide) (by decide)]
  after_reads_simp
  rfl

/-- The second call is given the last dense bias as one row. -/
theorem v93_eq : V9 m outs c main_v93 = shapeCast _ (m ((c.tc : Thread nD τ).loc main_arg11)) shapeCasts_S10_S1x10 := by
  rw [← kept m c outs main_arg11 (by decide) (by decide) (by decide) (by decide) (by decide) (by decide) (by decide) (by decide)]
  after_reads_simp
  rfl

/-- The second call is given the first dense weight as it is. -/
theorem arg6_eq : V9 m outs c main_arg6 = m ((c.tc : Thread nD τ).loc main_arg6) :=
  (V9_of m outs c main_arg6 (by decide)).trans (kept m c outs main_arg6 (by decide) (by decide) (by decide) (by decide) (by decide) (by decide) (by decide) (by decide))

/-- The second call is given the second dense weight as it is. -/
theorem arg8_eq : V9 m outs c main_arg8 = m ((c.tc : Thread nD τ).loc main_arg8) :=
  (V9_of m outs c main_arg8 (by decide)).trans (kept m c outs main_arg8 (by decide) (by decide) (by decide) (by decide) (by decide) (by decide) (by decide) (by decide))

/-- The second call is given the last dense weight as it is. -/
theorem arg10_eq : V9 m outs c main_arg10 = m ((c.tc : Thread nD τ).loc main_arg10) :=
  (V9_of m outs c main_arg10 (by decide)).trans (kept m c outs main_arg10 (by decide) (by decide) (by decide) (by decide) (by decide) (by decide) (by decide) (by decide))

end Cert.Proof.HostVals

end
-- ==== Proof.Pays.lean ====
/-
  The kernels' payloads at exact numbers, at an index.
-/
module

public import proofs.«01_k».proof.Proof.Gen.KernelIdeal.Skeleton
public import Idealize.ShloMosaic.Lib.Pipeline.ValueKit

@[expose] public section

set_option maxRecDepth 16384

noncomputable section

namespace Cert.Proof

open Cert.KernelIdeal Cert.KernelIdeal.Gen
open Idealize.ShloMosaic Idealize.ShloMosaic.TcCoe

/-- The word of the number two. -/
theorem two_word : Ideal.ofBits .f32 1073741824#32 = ((2 : ℝ) : EReal) := by
  simp [Ideal.ofBits, Ideal.ieee, -EReal.coe_mul]; norm_num

/-- Features times the weights that the graph matrix multiplies. -/
theorem pay2_at (x : FVec Ideal S128x512 .bf16) (w : FVec Ideal S512x768 .bf16) (r : Fin 128) (j : Fin 512) :
    k0_pay2 (F := Ideal) x w (ix2 r j) = ∑ k : Fin 512, x (ix2 r k) * w (ix2 k ⟨j, by omega⟩) := by
  pointwise [k0_pay2, k0_pay1]

/-- Features times the weights that it does not multiply. -/
theorem pay3_at (x : FVec Ideal S128x512 .bf16) (w : FVec Ideal S512x768 .bf16) (r : Fin 128) (j : Fin 256) :
    k0_pay3 (F := Ideal) x w (ix2 r j) = ∑ k : Fin 512, x (ix2 r k) * w (ix2 k ⟨512 + j, by omega⟩) := by
  pointwise [k0_pay3, k0_pay1]

/-- Rounding the graph matrix changes nothing. -/
theorem pay5_at (a : FVec Ideal S256x4096 .f32) (z : S256x4096.Idx) : (k0_pay5 (F := Ideal) a z : EReal) = a z := by
  pointwise [k0_pay5, k0_pay4]

/-- The graph matrix times the first half of a matrix. -/
theorem pay7_at (a : FVec Ideal S256x4096 .f32) (u : FVec Ideal S4096x512 .bf16) (r : Fin 256) (j : Fin 256) :
    (k0_pay7 (F := Ideal) a u (ix2 r j) : EReal) = ∑ n : Fin 4096, (a (ix2 r n) : EReal) * u (ix2 n ⟨j, by omega⟩) := by
  pointwise [k0_pay7, k0_pay6, k0_pay4]

/-- The graph matrix times the second half of a matrix. -/
theorem pay8_at (a : FVec Ideal S256x4096 .f32) (u : FVec Ideal S4096x512 .bf16) (r : Fin 256) (j : Fin 256) :
    (k0_pay8 (F := Ideal) a u (ix2 r j) : EReal) = ∑ n : Fin 4096, (a (ix2 r n) : EReal) * u (ix2 n ⟨256 + j, by omega⟩) := by
  pointwise [k0_pay8, k0_pay6, k0_pay4]

/-- The first layer's output at a node and a column, before its product with the second layer's weights. -/
def hid (a : FVec Ideal S1024x4096 .bf16) (y2 : FVec Ideal S4096x256 .bf16) (p q : FVec Ideal S1024x256 .bf16)
    (b : FVec Ideal S1x256 .f32) (r : Fin 1024) (k : Fin 256) : EReal :=
  max ((p (ix2 r k) : EReal) + q (ix2 r k) + ((2 : ℝ) : EReal) * (∑ n : Fin 4096, a (ix2 r n) * y2 (ix2 n k)) + b (ix2 0 k)) 0

/-- The first layer's output times the weights that the graph matrix multiplies. -/
theorem pay10_at (a : FVec Ideal S1024x4096 .bf16) (y2 : FVec Ideal S4096x256 .bf16) (p q : FVec Ideal S1024x256 .bf16)
    (b : FVec Ideal S1x256 .f32) (w : FVec Ideal S256x384 .bf16) (r : Fin 1024) (j : Fin 256) :
    (k0_pay10 (F := Ideal) a y2 p q b w (ix2 r j) : EReal) = ∑ k : Fin 256, hid a y2 p q b r k * w (ix2 k ⟨j, by omega⟩) := by
  pointwise [k0_pay10, k0_pay9, hid]
  rw [two_word]

/-- The first layer's output times the weights that it does not multiply. -/
theorem pay11_at (a : FVec Ideal S1024x4096 .bf16) (y2 : FVec Ideal S4096x256 .bf16) (p q : FVec Ideal S1024x256 .bf16)
    (b : FVec Ideal S1x256 .f32) (w : FVec Ideal S256x384 .bf16) (r : Fin 1024) (j : Fin 128) :
    (k0_pay11 (F := Ideal) a y2 p q b w (ix2 r j) : EReal) = ∑ k : Fin 256, hid a y2 p q b r k * w (ix2 k ⟨256 + j, by omega⟩) := by
  pointwise [k0_pay11, k0_pay9, hid]
  rw [two_word]

/-- The graph matrix times the first half of a matrix, in the second layer. -/
theorem pay13_at (a : FVec Ideal S1024x4096 .bf16) (v : FVec Ideal S4096x256 .bf16) (r : Fin 1024) (j : Fin 128) :
    (k0_pay13 (F := Ideal) a v (ix2 r j) : EReal) = ∑ n : Fin 4096, (a (ix2 r n) : EReal) * v (ix2 n ⟨j, by omega⟩) := by
  pointwise [k0_pay13, k0_pay12]

/-- The graph matrix times the second half of a matrix, in the second layer. -/
theorem pay14_at (a : FVec Ideal S1024x4096 .bf16) (v : FVec Ideal S4096x256 .bf16) (r : Fin 1024) (j : Fin 128) :
    (k0_pay14 (F := Ideal) a v (ix2 r j) : EReal) = ∑ n : Fin 4096, (a (ix2 r n) : EReal) * v (ix2 n ⟨128 + j, by omega⟩) := by
  pointwise [k0_pay14, k0_pay12]

/-- The second layer's output. -/
theorem pay15_at (a : FVec Ideal S1024x4096 .bf16) (s2 : FVec Ideal S4096x128 .bf16) (p q : FVec Ideal S1024x128 .bf16)
    (b : FVec Ideal S1x128 .f32) (r : Fin 1024) (k : Fin 128) :
    (k0_pay15 (F := Ideal) a s2 p q b (ix2 r k) : EReal)
      = max ((p (ix2 r k) : EReal) + q (ix2 r k) + ((2 : ℝ) : EReal) * (∑ n : Fin 4096, a (ix2 r n) * s2 (ix2 n k)) + b (ix2 0 k)) 0 := by
  pointwise [k0_pay15]
  rw [two_word]

/-- The accumulator starts at zero. -/
theorem headPay1_at (z : S8x512.Idx) : (k1_pay1 (F := Ideal) z : EReal) = 0 := by
  pointwise [k1_pay1]

/-- The accumulator grows by one block of the dense product. -/
theorem headPay2_at (s : FVec Ideal S8x512 .f32) (g : FVec Ideal S8192x8 .f32) (w : FVec Ideal S8192x512 .f32) (r : Fin 8) (j : Fin 512) :
    (k1_pay2 (F := Ideal) s g w (ix2 r j) : EReal) = s (ix2 r j) + ∑ k : Fin 8192, (g (ix2 k r) : EReal) * w (ix2 k j) := by
  pointwise [k1_pay2]

end Cert.Proof

end
-- ==== Proof.MegaVal.lean ====
/-
  What the first kernel computes, entry by entry, from the arrays it is given.
-/
module

public import proofs.«01_k».proof.Proof.Pays
public import proofs.«01_k».proof.Proof.MegaRegion

@[expose] public section

set_option maxRecDepth 16384

noncomputable section

namespace Cert.Proof.Mega

open Cert.KernelIdeal Cert.KernelIdeal.Gen
open Idealize.ShloMosaic Idealize.ShloMosaic.TcCoe
open Idealize.ShloMosaic.Pipeline (Dat Cfg Window)

/-- Which block each window is on at a point. -/
theorem idx : ∀ t : Fin cfg0.N, win0_0.index t = ![min t.val 15, 0] ∧ win0_1.index t = ![0, 0] ∧ win0_2.index t = ![0, 0]
    ∧ win0_3.index t = ![0, 0] ∧ win0_4.index t = ![0, 0] ∧ win0_5.index t = ![0, 0] ∧ win0_6.index t = ![t.val - 24, 0] :=
  (by decide +kernel : ∀ t : Fin grid0.N, _)

variable (V : (c : Dev nD) → (b : Ref sig .tc) → Buf (Elt Ideal) ((c : Thread nD τ).loc b)) (c : Dev nD)

/-- Rows taken out, at an index. -/
theorem take_at {α : Type} {R C B : ℕ} [NeZero R] (x : (Mat R C).Idx → α) (o : ℕ) (r : Fin B) (j : Fin C) (h : o + r.val < R) :
    take B x o (ix2 r j) = x (ix2 ⟨o + r.val, h⟩ j) := by
  unfold take
  refine congrArg x (funext fun a => ?_)
  match a with
  | 0 => exact Fin.ext (Nat.mod_eq_of_lt h)
  | 1 => rfl

/-- A stack of blocks of rows, at an index. -/
theorem stack_at {α : Type} {R C B : ℕ} [NeZero B] (g : ℕ → (Mat B C).Idx → α) (n : Fin R) (j : Fin C) :
    stack B g (ix2 n j) = g (n.val / B) (ix2 ⟨n.val % B, Nat.mod_lt _ (NeZero.pos B)⟩ j) := by
  unfold stack
  refine congrArg (g (n.val / B)) (funext fun a => ?_)
  match a with
  | 0 => rfl
  | 1 => rfl

/-- The block of the graph matrix at a point, at an index. -/
theorem blk0_at (s : ℕ) (hs : s < 16) (r : Fin 256) (k : Fin 4096) :
    blk0 V c (pt s) (ix2 r k) = V c main_arg1 (ix2 ⟨256 * s + r.val, by omega⟩ k) := by
  have h : (pt s).val = s := Nat.mod_eq_of_lt (by omega)
  have e := idx (pt s)
  rw [h] at e
  unfold blk0
  blk_ext [e]

/-- The features are one block. -/
theorem blk1_eq (t : Fin cfg0.N) : blk1 V c t = V c main_v2 := by unfold blk1; blk_ext! [idx t]
/-- The first layer's combined weights are one block. -/
theorem blk2_eq (t : Fin cfg0.N) : blk2 V c t = V c main_v34 := by unfold blk2; blk_ext! [idx t]
/-- The second layer's combined weights are one block. -/
theorem blk3_eq (t : Fin cfg0.N) : blk3 V c t = V c main_v81 := by unfold blk3; blk_ext! [idx t]
/-- The first bias is one block. -/
theorem blk4_eq (t : Fin cfg0.N) : blk4 V c t = V c main_v85 := by unfold blk4; blk_ext! [idx t]
/-- The second bias is one block. -/
theorem blk5_eq (t : Fin cfg0.N) : blk5 V c t = V c main_v88 := by unfold blk5; blk_ext! [idx t]

/-- The result is the stack of the four last points' blocks. -/
theorem result_eq (W : Dev nD → Valuation τ sig (Elt Ideal)) : result W c = stack 1024 (out (fun c b => W c b) c) := by
  unfold result
  refine Dat.arrAt_eq_of_covers (dat (fun c b => W c b) c) 6 _ (by decide +kernel) fun t hf y => ?_
  have ht : 24 ≤ t.val := by
    have := flush_iff t
    rw [show (win0 6).flush t = true from hf] at this
    simpa using this.symm
  have ht' : t.val < 28 := lt_of_lt_of_eq t.isLt N_0
  show out (fun c b => W c b) c (t.val - 24) y = _
  have h0 : ((((cfg0.win 6).blk t).view.emb y) 0).val = (t.val - 24) * 1024 + (y 0).val := by blk_simp [idx t]
  have h1 : ((((cfg0.win 6).blk t).view.emb y) 1).val = (y 1).val := by blk_simp [idx t]
  have hy : (y 0).val < 1024 := (y 0).isLt
  unfold stack
  rw [h0, show ((t.val - 24) * 1024 + (y 0).val) / 1024 = t.val - 24 by omega]
  refine congrArg (out (fun c b => W c b) c (t.val - 24)) (funext fun a => ?_)
  match a with
  | 0 => exact Fin.ext (show (y 0).val = ((t.val - 24) * 1024 + (y 0).val) % 1024 by omega)
  | 1 => exact Fin.ext h1.symm

/-- The graph matrix, exact. -/
abbrev eA (n k : Fin 4096) : EReal := V c main_arg1 (ix2 n k)
/-- The features, exact. -/
abbrev eX (n : Fin 4096) (k : Fin 512) : EReal := V c main_v2 (ix2 n k)
/-- The combined first-layer weights, exact. -/
abbrev eW1 (k : Fin 512) (j : Fin 768) : EReal := V c main_v34 (ix2 k j)
/-- The combined second-layer weights, exact. -/
abbrev eW2 (k : Fin 256) (j : Fin 384) : EReal := V c main_v81 (ix2 k j)
/-- The first bias, exact. -/
abbrev eB1 (k : Fin 256) : EReal := V c main_v85 (ix2 0 k)
/-- The second bias, exact. -/
abbrev eB2 (k : Fin 128) : EReal := V c main_v88 (ix2 0 k)
/-- The scratch matrix `mU12`, exact. -/
abbrev eU (n : Fin 4096) (j : Fin 512) : EReal := mU12 V c (ix2 n j)
/-- The scratch matrix `mP0`, exact. -/
abbrev eP (n : Fin 4096) (j : Fin 256) : EReal := mP0 V c (ix2 n j)
/-- The scratch matrix `mY1`, exact. -/
abbrev eY1 (n : Fin 4096) (j : Fin 256) : EReal := mY1 V c (ix2 n j)
/-- The scratch matrix `mY2`, exact. -/
abbrev eY2 (n : Fin 4096) (j : Fin 256) : EReal := mY2 V c (ix2 n j)
/-- The scratch matrix `mV12`, exact. -/
abbrev eV (n : Fin 4096) (j : Fin 256) : EReal := mV12 V c (ix2 n j)
/-- The scratch matrix `mQ0`, exact. -/
abbrev eQ (n : Fin 4096) (j : Fin 128) : EReal := mQ0 V c (ix2 n j)
/-- The scratch matrix `mS1`, exact. -/
abbrev eS1 (n : Fin 4096) (j : Fin 128) : EReal := mS1 V c (ix2 n j)
/-- The scratch matrix `mS2`, exact. -/
abbrev eS2 (n : Fin 4096) (j : Fin 128) : EReal := mS2 V c (ix2 n j)

/-- The rounded graph matrix is the graph matrix. -/
theorem mA_at (n k : Fin 4096) : (mA V c (ix2 n k) : EReal) = eA V c n k := by
  rw [mA, stack_at, pay5_at, blk0_at V c _ (by omega)]
  exact congrArg (fun i => V c main_arg1 (ix2 i k)) (Fin.ext (by simp only; omega))

/-- The row a block's row is. -/
theorem row_eq (n : Fin 4096) : (⟨1024 * (n.val / 1024) + n.val % 1024, by omega⟩ : Fin 4096) = n := Fin.ext (by simp only; omega)
/-- The same for blocks of 128 rows. -/
theorem row_eq128 (n : Fin 4096) : (⟨128 * (n.val / 128) + n.val % 128, by omega⟩ : Fin 4096) = n := Fin.ext (by simp only; omega)
/-- The same for blocks of 256 rows. -/
theorem row_eq256 (n : Fin 4096) : (⟨256 * (n.val / 256) + n.val % 256, by omega⟩ : Fin 4096) = n := Fin.ext (by simp only; omega)

/-- A row of the block of rows it lies in. -/
theorem take_row {α : Type} {C : ℕ} (x : (Mat 4096 C).Idx → α) (n : Fin 4096) (j : Fin C) :
    take 1024 x (1024 * (n.val / 1024)) (ix2 ⟨n.val % 1024, Nat.mod_lt _ (by decide)⟩ j) = x (ix2 n j) := by
  rw [take_at x _ _ _ (show 1024 * (n.val / 1024) + n.val % 1024 < 4096 by omega), row_eq]

/-- The first layer's output at a node and a column. -/
def hidden (n : Fin 4096) (k : Fin 256) : EReal :=
  max (eP V c n k + eY1 V c n k + ((2 : ℝ) : EReal) * (∑ l : Fin 4096, eA V c n l * eY2 V c l k) + eB1 V c k) 0

/-- Features times weights. -/
theorem eU_at (n : Fin 4096) (j : Fin 512) : eU V c n j = ∑ k : Fin 512, eX V c n k * eW1 V c k ⟨j.val, by omega⟩ := by
  unfold eU
  rw [mU12, u12, stack_at, blk1_eq, blk2_eq, pay2_at]
  refine Finset.sum_congr rfl fun k _ => ?_
  rw [take_at _ _ _ _ (show 128 * (n.val / 128) + n.val % 128 < 4096 by omega), row_eq128]

/-- Features times weights. -/
theorem eP_at (n : Fin 4096) (j : Fin 256) : eP V c n j = ∑ k : Fin 512, eX V c n k * eW1 V c k ⟨512 + j.val, by omega⟩ := by
  unfold eP
  rw [mP0, p0, stack_at, blk1_eq, blk2_eq, pay3_at]
  refine Finset.sum_congr rfl fun k _ => ?_
  rw [take_at _ _ _ _ (show 128 * (n.val / 128) + n.val % 128 < 4096 by omega), row_eq128]

/-- The graph matrix times half of them. -/
theorem eY1_at (n : Fin 4096) (j : Fin 256) : eY1 V c n j = ∑ k : Fin 4096, eA V c n k * eU V c k ⟨j.val, by omega⟩ := by
  unfold eY1
  rw [mY1, stack_at, pay7_at]
  refine Finset.sum_congr rfl fun k _ => ?_
  rw [blk0_at V c _ (show n.val / 256 < 16 by omega), row_eq256]

/-- The graph matrix times half of them. -/
theorem eY2_at (n : Fin 4096) (j : Fin 256) : eY2 V c n j = ∑ k : Fin 4096, eA V c n k * eU V c k ⟨256 + j.val, by omega⟩ := by
  unfold eY2
  rw [mY2, stack_at, pay8_at]
  refine Finset.sum_congr rfl fun k _ => ?_
  rw [blk0_at V c _ (show n.val / 256 < 16 by omega), row_eq256]

/-- The first layer's output, from the block of rows that a node lies in. -/
theorem hid_eq (n : Fin 4096) (k : Fin 256) (t : Fin cfg0.N) :
    hid (take 1024 (mA V c) (1024 * (n.val / 1024))) (mY2 V c) (take 1024 (mP0 V c) (1024 * (n.val / 1024)))
      (take 1024 (mY1 V c) (1024 * (n.val / 1024))) (blk4 V c t) ⟨n.val % 1024, Nat.mod_lt _ (by decide)⟩ k = hidden V c n k := by
  unfold hid hidden
  simp only [take_row, blk4_eq, mA_at]

/-- The first layer's output times weights. -/
theorem eV_at (n : Fin 4096) (j : Fin 256) : eV V c n j = ∑ k : Fin 256, hidden V c n k * eW2 V c k ⟨j.val, by omega⟩ := by
  unfold eV
  rw [mV12, stack_at, pay10_at]
  refine Finset.sum_congr rfl fun k _ => ?_
  rw [hid_eq, blk3_eq]

/-- The first layer's output times weights. -/
theorem eQ_at (n : Fin 4096) (j : Fin 128) : eQ V c n j = ∑ k : Fin 256, hidden V c n k * eW2 V c k ⟨256 + j.val, by omega⟩ := by
  unfold eQ
  rw [mQ0, stack_at, pay11_at]
  refine Finset.sum_congr rfl fun k _ => ?_
  rw [hid_eq, blk3_eq]

/-- The graph matrix times half of them. -/
theorem eS1_at (n : Fin 4096) (j : Fin 128) : eS1 V c n j = ∑ k : Fin 4096, eA V c n k * eV V c k ⟨j.val, by omega⟩ := by
  unfold eS1
  rw [mS1, stack_at, pay13_at]
  refine Finset.sum_congr rfl fun k _ => ?_
  rw [take_row, mA_at]

/-- The graph matrix times half of them. -/
theorem eS2_at (n : Fin 4096) (j : Fin 128) : eS2 V c n j = ∑ k : Fin 4096, eA V c n k * eV V c k ⟨128 + j.val, by omega⟩ := by
  unfold eS2
  rw [mS2, stack_at, pay14_at]
  refine Finset.sum_congr rfl fun k _ => ?_
  rw [take_row, mA_at]

/-- The result at a node and a column. -/
theorem out_at (n : Fin 4096) (k : Fin 128) :
    (stack (R := 4096) 1024 (out V c) (ix2 n k) : EReal) = max (eQ V c n k + eS1 V c n k
      + ((2 : ℝ) : EReal) * (∑ l : Fin 4096, eA V c n l * eS2 V c l k) + eB2 V c k) 0 := by
  rw [stack_at, out, pay15_at]
  simp only [take_row, blk5_eq, mA_at]

end Cert.Proof.Mega

end
-- ==== Proof.Layers.lean ====
/-
  The first kernel's result is the reference's second convolution of its first, when the features, the graph matrix, the
  weights and the first bias are real numbers.
-/
module

public import proofs.«01_k».proof.Proof.Alg
public import proofs.«01_k».proof.Proof.Host
public import proofs.«01_k».proof.Proof.MegaVal

@[expose] public section

set_option maxRecDepth 16384

noncomputable section

namespace Cert.Proof.Layers

open Cert.KernelIdeal Cert.KernelIdeal.Gen
open Idealize.ShloMosaic Idealize.ShloMosaic.TcCoe
open Cert.Proof.Mega Cert.Proof.HostVals

variable (m : (ℓ : Loc nD τ sig) → Buf (Elt Ideal) ℓ) (c : Dev nD)

/-- The convolutions' inputs, but for the second bias, as real numbers. -/
structure Reals where
  X : Fin 8 → Fin 4096 → Fin 64 → ℝ
  A : Fin 4096 → Fin 4096 → ℝ
  W1 : Fin 3 → Fin 64 → Fin 32 → ℝ
  B1 : Fin 32 → ℝ
  W2 : Fin 3 → Fin 32 → Fin 16 → ℝ

/-- They are what the arguments hold. -/
structure Reals.Of (R : Reals) : Prop where
  hX : ∀ i n f, (m ((c.tc : Thread nD τ).loc main_arg0) (ix3 i n f) : EReal) = (R.X i n f : EReal)
  hA : ∀ n k, (m ((c.tc : Thread nD τ).loc main_arg1) (ix2 n k) : EReal) = (R.A n k : EReal)
  hW1 : ∀ i f o, (m ((c.tc : Thread nD τ).loc main_arg2) (ix3 i f o) : EReal) = (R.W1 i f o : EReal)
  hB1 : ∀ o, (m ((c.tc : Thread nD τ).loc main_arg3) (ix1 o) : EReal) = (R.B1 o : EReal)
  hW2 : ∀ i f o, (m ((c.tc : Thread nD τ).loc main_arg4) (ix3 i f o) : EReal) = (R.W2 i f o : EReal)

/-- The first layer's output, real. -/
def Reals.H (R : Reals) (b : Fin 8) (n : Fin 4096) (o : Fin 32) : ℝ :=
  max (conv (R.X b) R.A (fun i f => R.W1 i f o) n + R.B1 o) 0

/-- The larger of a real number and zero. -/
theorem max_coe (x : ℝ) : max (x : EReal) 0 = ((max x 0 : ℝ) : EReal) := by
  rw [← EReal.coe_zero]
  exact (EReal.coe_strictMono.monotone.map_max).symm

/-- What the first call is given. -/
abbrev given (c : Dev nD) (b : Ref sig .tc) : Buf (Elt Ideal) ((c.tc : Thread nD τ).loc b) := V7 m c b

variable {m c} {R : Reals} (h : R.Of m c)
include h

/-- The graph matrix is real. -/
theorem eA_eq (n k : Fin 4096) : eA (given m) c n k = (R.A n k : EReal) := by
  refine Eq.trans ?_ (h.hA n k)
  exact congrFun (a_eq m c) _

/-- The features times the weights of the second term. -/
theorem eU1_eq (n : Fin 4096) (j : Fin 256) : eU (given m) c n ⟨j.val, by omega⟩
    = ((∑ f, R.X ⟨j.val / 32, by omega⟩ n f * R.W1 1 f ⟨j.val % 32, by omega⟩ : ℝ) : EReal) := by
  rw [eU_at]
  refine sum_block_real (C := 64) rfl (fun b f => R.X b n f) (fun f => R.W1 1 f ⟨j.val % 32, by omega⟩) ⟨j.val / 32, by omega⟩ _ fun k h1 h2 => ?_
  rw [← h.hX, ← h.hW1]
  exact congrArg₂ _ (xv_at m c n k) (ws1_at1 m c k j)

/-- The features times the weights of the third term. -/
theorem eU2_eq (n : Fin 4096) (j : Fin 256) : eU (given m) c n ⟨256 + j.val, by omega⟩
    = ((∑ f, R.X ⟨j.val / 32, by omega⟩ n f * R.W1 2 f ⟨j.val % 32, by omega⟩ : ℝ) : EReal) := by
  rw [eU_at]
  refine sum_block_real (C := 64) rfl (fun b f => R.X b n f) (fun f => R.W1 2 f ⟨j.val % 32, by omega⟩) ⟨j.val / 32, by omega⟩ _ fun k h1 h2 => ?_
  rw [← h.hX, ← h.hW1]
  exact congrArg₂ _ (xv_at m c n k) (ws1_at2 m c k j)

/-- The features times the first term's weights less the third's. -/
theorem eP_eq (n : Fin 4096) (j : Fin 256) : eP (given m) c n j
    = ((∑ f, R.X ⟨j.val / 32, by omega⟩ n f * (R.W1 0 f ⟨j.val % 32, by omega⟩ - R.W1 2 f ⟨j.val % 32, by omega⟩) : ℝ) : EReal) := by
  rw [eP_at]
  refine sum_block_real (C := 64) rfl (fun b f => R.X b n f) (fun f => R.W1 0 f ⟨j.val % 32, by omega⟩ - R.W1 2 f ⟨j.val % 32, by omega⟩) ⟨j.val / 32, by omega⟩ _ fun k h1 h2 => ?_
  rw [EReal.coe_sub, ← h.hX, ← h.hW1, ← h.hW1]
  exact congrArg₂ _ (xv_at m c n k) (ws1_at3 m c k j)

/-- The graph matrix times the features times the weights of the second term. -/
theorem eY1_eq (n : Fin 4096) (j : Fin 256) : eY1 (given m) c n j
    = ((∑ k, R.A n k * ∑ f, R.X ⟨j.val / 32, by omega⟩ k f * R.W1 1 f ⟨j.val % 32, by omega⟩ : ℝ) : EReal) := by
  rw [eY1_at, ← coe_dot]
  exact Finset.sum_congr rfl fun k _ => by rw [eA_eq h, eU1_eq h]

/-- The graph matrix times the features times the weights of the third term. -/
theorem eY2_eq (n : Fin 4096) (j : Fin 256) : eY2 (given m) c n j
    = ((∑ k, R.A n k * ∑ f, R.X ⟨j.val / 32, by omega⟩ k f * R.W1 2 f ⟨j.val % 32, by omega⟩ : ℝ) : EReal) := by
  rw [eY2_at, ← coe_dot]
  exact Finset.sum_congr rfl fun k _ => by rw [eA_eq h, eU2_eq h]

/-- The first layer's output. -/
theorem hidden_eq (n : Fin 4096) (j : Fin 256) :
    Mega.hidden (given m) c n j = (R.H ⟨j.val / 32, by omega⟩ n ⟨j.val % 32, by omega⟩ : EReal) := by
  have e : eB1 (given m) c j = (R.B1 ⟨j.val % 32, by omega⟩ : EReal) := (b1_at m c j).trans (h.hB1 _)
  rw [Mega.hidden, eP_eq h, eY1_eq h, e]
  simp only [eA_eq h, eY2_eq h]
  rw [fused_coe (R.X ⟨j.val / 32, by omega⟩) R.A (fun i f => R.W1 i f ⟨j.val % 32, by omega⟩) n, ← EReal.coe_add, max_coe]
  rfl

/-- The first layer's output times the second layer's weights of the second term. -/
theorem eV1_eq (n : Fin 4096) (j : Fin 128) : eV (given m) c n ⟨j.val, by omega⟩
    = ((∑ f, R.H ⟨j.val % 8, by omega⟩ n f * R.W2 1 f ⟨j.val / 8, by omega⟩ : ℝ) : EReal) := by
  rw [eV_at]
  refine sum_block_real (C := 32) rfl (fun b f => R.H b n f) (fun f => R.W2 1 f ⟨j.val / 8, by omega⟩) ⟨j.val % 8, by omega⟩ _ fun k h1 h2 => ?_
  rw [← h.hW2, hidden_eq h]
  exact congrArg _ (ws2_at1 m c k j)

/-- The first layer's output times the second layer's weights of the third term. -/
theorem eV2_eq (n : Fin 4096) (j : Fin 128) : eV (given m) c n ⟨128 + j.val, by omega⟩
    = ((∑ f, R.H ⟨j.val % 8, by omega⟩ n f * R.W2 2 f ⟨j.val / 8, by omega⟩ : ℝ) : EReal) := by
  rw [eV_at]
  refine sum_block_real (C := 32) rfl (fun b f => R.H b n f) (fun f => R.W2 2 f ⟨j.val / 8, by omega⟩) ⟨j.val % 8, by omega⟩ _ fun k h1 h2 => ?_
  rw [← h.hW2, hidden_eq h]
  exact congrArg _ (ws2_at2 m c k j)

/-- The first layer's output times the second layer's first weights less its third. -/
theorem eQ_eq (n : Fin 4096) (j : Fin 128) : eQ (given m) c n j
    = ((∑ f, R.H ⟨j.val % 8, by omega⟩ n f * (R.W2 0 f ⟨j.val / 8, by omega⟩ - R.W2 2 f ⟨j.val / 8, by omega⟩) : ℝ) : EReal) := by
  rw [eQ_at]
  refine sum_block_real (C := 32) rfl (fun b f => R.H b n f) (fun f => R.W2 0 f ⟨j.val / 8, by omega⟩ - R.W2 2 f ⟨j.val / 8, by omega⟩) ⟨j.val % 8, by omega⟩ _ fun k h1 h2 => ?_
  rw [EReal.coe_sub, ← h.hW2, ← h.hW2, hidden_eq h]
  exact congrArg _ (ws2_at3 m c k j)

/-- The graph matrix times the first layer's output times the weights of the second term. -/
theorem eS1_eq (n : Fin 4096) (j : Fin 128) : eS1 (given m) c n j
    = ((∑ k, R.A n k * ∑ f, R.H ⟨j.val % 8, by omega⟩ k f * R.W2 1 f ⟨j.val / 8, by omega⟩ : ℝ) : EReal) := by
  rw [eS1_at, ← coe_dot]
  exact Finset.sum_congr rfl fun k _ => by rw [eA_eq h, eV1_eq h]

/-- The graph matrix times the first layer's output times the weights of the third term. -/
theorem eS2_eq (n : Fin 4096) (j : Fin 128) : eS2 (given m) c n j
    = ((∑ k, R.A n k * ∑ f, R.H ⟨j.val % 8, by omega⟩ k f * R.W2 2 f ⟨j.val / 8, by omega⟩ : ℝ) : EReal) := by
  rw [eS2_at, ← coe_dot]
  exact Finset.sum_congr rfl fun k _ => by rw [eA_eq h, eV2_eq h]

/-- The first kernel's result: node by (channel, batch). -/
theorem result_at (n : Fin 4096) (j : Fin 128) : (result (fun c => V7 m c) c (ix2 n j) : EReal)
    = max (((conv (R.H ⟨j.val % 8, by omega⟩) R.A (fun i f => R.W2 i f ⟨j.val / 8, by omega⟩) n : ℝ) : EReal)
      + m ((c.tc : Thread nD τ).loc main_arg5) (ix1 ⟨j.val / 8, by omega⟩)) 0 := by
  have e := b2_at m c j
  rw [result_eq]
  refine (out_at (given m) c n j).trans ?_
  rw [eQ_eq h, eS1_eq h]
  simp only [eA_eq h, eS2_eq h]
  rw [fused_coe (R.H ⟨j.val % 8, by omega⟩) R.A (fun i f => R.W2 i f ⟨j.val / 8, by omega⟩) n]
  exact congrArg (fun z : EReal => max (_ + z) 0) e

end Cert.Proof.Layers

end
-- ==== Proof.HeadVal.lean ====
/-
  What the second kernel computes from the arrays it is given: the dense layers over the whole contraction.
-/
module

public import proofs.«01_k».proof.Proof.Pays
public import proofs.«01_k».proof.Proof.HeadRegion

@[expose] public section

set_option maxRecDepth 16384

noncomputable section

namespace Cert.Proof.Head

open Cert.KernelIdeal Cert.KernelIdeal.Gen
open Idealize.ShloMosaic Idealize.ShloMosaic.TcCoe
open Idealize.ShloMosaic.Pipeline (Dat Cfg Window)

/-- Which block each window is on at a point. -/
theorem idx : ∀ t : Fin cfg1.N, win1_0.index t = ![t.val, 0] ∧ win1_1.index t = ![t.val, 0] ∧ win1_2.index t = ![0, 0]
    ∧ win1_3.index t = ![0, 0] ∧ win1_4.index t = ![0, 0] ∧ win1_5.index t = ![0, 0] ∧ win1_6.index t = ![0, 0] ∧ win1_7.index t = ![0, 0] :=
  (by decide +kernel : ∀ t : Fin grid1.N, _)

variable (V : (c : Dev nD) → (b : Ref sig .tc) → Buf (Elt Ideal) ((c : Thread nD τ).loc b)) (c : Dev nD)

/-- The flattened graph features, exact. -/
abbrev eG (k : Fin 65536) (r : Fin 8) : EReal := V c main_v90 (ix2 k r)
/-- The large weight, exact. -/
abbrev eW (k : Fin 65536) (j : Fin 512) : EReal := V c main_arg6 (ix2 k j)

/-- The block of the graph features at a point, at an index. -/
theorem blk0_at (s : ℕ) (hs : s < 8) (r : Fin 8192) (k : Fin 8) :
    blk0 V c (pt s) (ix2 r k) = V c main_v90 (ix2 ⟨s * 8192 + r.val, by omega⟩ k) := by
  have h : (pt s).val = s := Nat.mod_eq_of_lt (by omega)
  have e := idx (pt s)
  rw [h] at e
  unfold blk0
  blk_ext [e]

/-- The block of the large weight at a point, at an index. -/
theorem blk1_at (s : ℕ) (hs : s < 8) (r : Fin 8192) (k : Fin 512) :
    blk1 V c (pt s) (ix2 r k) = V c main_arg6 (ix2 ⟨s * 8192 + r.val, by omega⟩ k) := by
  have h : (pt s).val = s := Nat.mod_eq_of_lt (by omega)
  have e := idx (pt s)
  rw [h] at e
  unfold blk1
  blk_ext [e]

/-- The first dense bias is one block. -/
theorem blk2_eq (t : Fin cfg1.N) : blk2 V c t = V c main_v91 := by unfold blk2; blk_ext! [idx t]
/-- The second dense weight is one block. -/
theorem blk3_eq (t : Fin cfg1.N) : blk3 V c t = V c main_arg8 := by unfold blk3; blk_ext! [idx t]
/-- The second dense bias is one block. -/
theorem blk4_eq (t : Fin cfg1.N) : blk4 V c t = V c main_v92 := by unfold blk4; blk_ext! [idx t]
/-- The last dense weight is one block. -/
theorem blk5_eq (t : Fin cfg1.N) : blk5 V c t = V c main_arg10 := by unfold blk5; blk_ext! [idx t]
/-- The last dense bias is one block. -/
theorem blk6_eq (t : Fin cfg1.N) : blk6 V c t = V c main_v93 := by unfold blk6; blk_ext! [idx t]

/-- The accumulator after a point: the sum over the blocks so far. -/
theorem acc_at (r : Fin 8) (j : Fin 512) : ∀ n : ℕ, (acc V c n (ix2 r j) : EReal)
    = ∑ s ∈ Finset.range (n + 1), ∑ k : Fin 8192, (blk0 V c (pt s) (ix2 k r) : EReal) * blk1 V c (pt s) (ix2 k j)
  | 0 => by rw [acc, headPay2_at, headPay1_at, zero_add, Finset.sum_range_one]
  | n + 1 => by rw [acc, headPay2_at, acc_at r j n, Finset.sum_range_succ _ (n + 1)]

/-- The accumulator at the end: the product over the whole contraction. -/
theorem acc_last (r : Fin 8) (j : Fin 512) : (acc V c 7 (ix2 r j) : EReal)
    = ∑ k : Fin 65536, eG V c k r * eW V c k j := by
  rw [acc_at, ← Fin.sum_univ_eq_sum_range (fun s => ∑ k : Fin 8192, (blk0 V c (pt s) (ix2 k r) : EReal) * blk1 V c (pt s) (ix2 k j)) 8,
    ← Fin.sum_mul_add_fin 8 8192 (fun k : Fin 65536 => eG V c k r * eW V c k j)]
  refine Finset.sum_congr rfl fun s _ => Finset.sum_congr rfl fun k _ => ?_
  rw [blk0_at V c s s.isLt, blk1_at V c s s.isLt]

/-- The result is what the last point leaves. -/
theorem result_eq (W : Dev nD → Valuation τ sig (Elt Ideal)) : result W c = out (fun c b => W c b) c := by
  unfold result
  refine Dat.arrAt_eq_of_covers (dat (fun c b => W c b) c) 7 _ (by decide +kernel) fun t hf y => ?_
  show out (fun c b => W c b) c y = out (fun c b => W c b) c _
  refine congrArg _ ?_
  blk_ext [idx t]

end Cert.Proof.Head

end
-- ==== Proof.Ref.lean ====
/-
  The reference's result in three stages: a Chebyshev graph convolution of 64 channels, one of 32, and the dense head.
-/
module

public import proofs.«01_k».proof.Proof.Gen.ReferenceIdeal.Run
public import proofs.«01_k».proof.Proof.Pays

@[expose] public section

set_option maxRecDepth 16384

noncomputable section

namespace Cert.Proof.Ref

open Cert.ReferenceIdeal Cert.ReferenceIdeal.Gen
open Idealize.ShloMosaic Idealize.ShloMosaic.TcCoe

/-- The graph matrix applied to every node's channels. -/
abbrev hop1 (x : FVec Ideal S8x4096x64 .f32) (a : FVec Ideal S4096x4096 .f32) : FVec Ideal S8x4096x64 .f32 :=
  transpose S8x4096x64 [0, 2, 1] (Host.dotGeneral dot_S8x4096x64_S4096x4096_S8x64x4096_1_1_02_0_n_n none x a)
    transposes_S8x64x4096_S8x4096x64_0_2_1

/-- The first convolution. -/
def cheb1 (x : FVec Ideal S8x4096x64 .f32) (a : FVec Ideal S4096x4096 .f32) (W : FVec Ideal S3x64x32 .f32) (b : FVec Ideal S32 .f32) :
    FVec Ideal S8x4096x32 .f32 :=
  maximumf (addf (addf (addf
    (Host.dotGeneral dot_S8x4096x64_S64x32_S8x4096x32_2_0_01_1_n_n none x
      (shapeCast _ (extractStridedSlice S1x64x32 ![0, 0, 0] W slices_S3x64x32_S1x64x32_0_0_0) shapeCasts_S1x64x32_S64x32))
    (Host.dotGeneral dot_S8x4096x64_S64x32_S8x4096x32_2_0_01_1_n_n none (hop1 x a)
      (shapeCast _ (extractStridedSlice S1x64x32 ![1, 0, 0] W slices_S3x64x32_S1x64x32_1_0_0) shapeCasts_S1x64x32_S64x32)))
    (Host.dotGeneral dot_S8x4096x64_S64x32_S8x4096x32_2_0_01_1_n_n none
      (subf (mulf (broadcastInDim S8x4096x64 ![] bcast_S_S8x4096x64 (constant S_ .f32 0x40000000#32)) (hop1 (hop1 x a) a)) x)
      (shapeCast _ (extractStridedSlice S1x64x32 ![2, 0, 0] W slices_S3x64x32_S1x64x32_2_0_0) shapeCasts_S1x64x32_S64x32)))
    (broadcastInDim S8x4096x32 ![0, 1, 2] bcast_S1x1x32_S8x4096x32_0_1_2 (broadcastInDim S1x1x32 ![2] bcast_S32_S1x1x32_2 b)))
    (broadcastInDim S8x4096x32 ![] bcast_S_S8x4096x32 (constant S_ .f32 0x00000000#32))

/-- The features times the graph matrix, in the second convolution. -/
abbrev hop2 (x : FVec Ideal S8x4096x32 .f32) (a : FVec Ideal S4096x4096 .f32) : FVec Ideal S8x4096x32 .f32 :=
  transpose S8x4096x32 [0, 2, 1] (Host.dotGeneral dot_S8x4096x32_S4096x4096_S8x32x4096_1_1_02_0_n_n none x a)
    transposes_S8x32x4096_S8x4096x32_0_2_1

/-- The second convolution. -/
def cheb2 (x : FVec Ideal S8x4096x32 .f32) (a : FVec Ideal S4096x4096 .f32) (W : FVec Ideal S3x32x16 .f32) (b : FVec Ideal S16 .f32) :
    FVec Ideal S8x4096x16 .f32 :=
  maximumf (addf (addf (addf
    (Host.dotGeneral dot_S8x4096x32_S32x16_S8x4096x16_2_0_01_1_n_n none x
      (shapeCast _ (extractStridedSlice S1x32x16 ![0, 0, 0] W slices_S3x32x16_S1x32x16_0_0_0) shapeCasts_S1x32x16_S32x16))
    (Host.dotGeneral dot_S8x4096x32_S32x16_S8x4096x16_2_0_01_1_n_n none (hop2 x a)
      (shapeCast _ (extractStridedSlice S1x32x16 ![1, 0, 0] W slices_S3x32x16_S1x32x16_1_0_0) shapeCasts_S1x32x16_S32x16)))
    (Host.dotGeneral dot_S8x4096x32_S32x16_S8x4096x16_2_0_01_1_n_n none
      (subf (mulf (broadcastInDim S8x4096x32 ![] bcast_S_S8x4096x32 (constant S_ .f32 0x40000000#32)) (hop2 (hop2 x a) a)) x)
      (shapeCast _ (extractStridedSlice S1x32x16 ![2, 0, 0] W slices_S3x32x16_S1x32x16_2_0_0) shapeCasts_S1x32x16_S32x16)))
    (broadcastInDim S8x4096x16 ![0, 1, 2] bcast_S1x1x16_S8x4096x16_0_1_2 (broadcastInDim S1x1x16 ![2] bcast_S16_S1x1x16_2 b)))
    (broadcastInDim S8x4096x16 ![] bcast_S_S8x4096x16 (constant S_ .f32 0x00000000#32))

/-- The first dense product. -/
def dense (h : FVec Ideal S8x4096x16 .f32) (w : FVec Ideal S65536x512 .f32) : FVec Ideal S8x512 .f32 :=
  Host.dotGeneral dot_S8x65536_S65536x512_S8x512_1_0_0_1_n_n none (shapeCast _ h shapeCasts_S8x4096x16_S8x65536) w

/-- The logits. -/
def logits (s : FVec Ideal S8x512 .f32) (b1 : FVec Ideal S512 .f32) (w2 : FVec Ideal S512x128 .f32) (b2 : FVec Ideal S128 .f32)
    (w3 : FVec Ideal S128x10 .f32) (b3 : FVec Ideal S10 .f32) : FVec Ideal S8x10 .f32 :=
  addf (Host.dotGeneral dot_S8x128_S128x10_S8x10_1_0_0_1_n_n none
    (maximumf (addf (Host.dotGeneral dot_S8x512_S512x128_S8x128_1_0_0_1_n_n none
      (maximumf (addf s (broadcastInDim S8x512 ![0, 1] bcast_S1x512_S8x512_0_1 (broadcastInDim S1x512 ![1] bcast_S512_S1x512_1 b1)))
        (broadcastInDim S8x512 ![] bcast_S_S8x512 (constant S_ .f32 0x00000000#32))) w2)
      (broadcastInDim S8x128 ![0, 1] bcast_S1x128_S8x128_0_1 (broadcastInDim S1x128 ![1] bcast_S128_S1x128_1 b2)))
      (broadcastInDim S8x128 ![] bcast_S_S8x128 (constant S_ .f32 0x00000000#32))) w3)
    (broadcastInDim S8x10 ![0, 1] bcast_S1x10_S8x10_0_1 (broadcastInDim S1x10 ![1] bcast_S10_S1x10_1 b3))

/-- The exponentials of the logits less their row's largest. -/
def expo (l : FVec Ideal S8x10 .f32) : FVec Ideal S8x10 .f32 :=
  Host.exp (subf l (broadcastInDim S8x10 ![0, 1] bcast_S8x1_S8x10_0_1 (broadcastInDim S8x1 ![0] bcast_S8_S8x1_0
    (maximumf (broadcastInDim S8 ![] bcast_S_S8 (constant S_ .f32 0xFF800000#32))
      (Host.reduce FloatOps.maximumf l (constant S_ .f32 0xFF800000#32) reducesTo_S8x10_S8_d1 h_S_)))))

/-- The softmax. -/
def soft (l : FVec Ideal S8x10 .f32) : FVec Ideal S8x10 .f32 :=
  Host.divf (expo l) (broadcastInDim S8x10 ![0, 1] bcast_S8x1_S8x10_0_1 (broadcastInDim S8x1 ![0] bcast_S8_S8x1_0
    (Host.reduceAdd (expo l) (constant S_ .f32 0x00000000#32) reducesTo_S8x10_S8_d1 h_S_)))

variable (m : (ℓ : Loc nD τ sig) → Buf (Elt Ideal) ℓ) (c : Dev nD)

/-- The reference's result, stage by stage. -/
theorem result_eq : Value.res_main_v69 (F := Ideal) m c
    = soft (logits (dense (cheb2 (cheb1 (m ((c.tc : Thread nD τ).loc main_arg0)) (m ((c.tc : Thread nD τ).loc main_arg1))
        (m ((c.tc : Thread nD τ).loc main_arg2)) (m ((c.tc : Thread nD τ).loc main_arg3))) (m ((c.tc : Thread nD τ).loc main_arg1))
        (m ((c.tc : Thread nD τ).loc main_arg4)) (m ((c.tc : Thread nD τ).loc main_arg5))) (m ((c.tc : Thread nD τ).loc main_arg6)))
        (m ((c.tc : Thread nD τ).loc main_arg7)) (m ((c.tc : Thread nD τ).loc main_arg8)) (m ((c.tc : Thread nD τ).loc main_arg9))
        (m ((c.tc : Thread nD τ).loc main_arg10)) (m ((c.tc : Thread nD τ).loc main_arg11))) := by
  unfold Value.res_main_v69 soft expo logits dense cheb2 cheb1
  rfl

/-- The first convolution, at an index. -/
theorem cheb1_at (x : FVec Ideal S8x4096x64 .f32) (a : FVec Ideal S4096x4096 .f32) (W : FVec Ideal S3x64x32 .f32) (b : FVec Ideal S32 .f32)
    (i : Fin 8) (n : Fin 4096) (o : Fin 32) :
    (cheb1 x a W b (ix3 i n o) : EReal)
      = max (∑ f : Fin 64, (x (ix3 i n f) : EReal) * W (ix3 0 f o) + ∑ f : Fin 64, (∑ k : Fin 4096, (x (ix3 i k f) : EReal) * a (ix2 n k)) * W (ix3 1 f o)
          + ∑ f : Fin 64, (((2 : ℝ) : EReal) * ∑ k : Fin 4096, (∑ l : Fin 4096, (x (ix3 i l f) : EReal) * a (ix2 k l)) * a (ix2 n k) - x (ix3 i n f)) * W (ix3 2 f o)
        + b (ix1 o)) 0 := by
  pointwise [cheb1, hop1]
  rw [two_word]

/-- The second convolution, at an index. -/
theorem cheb2_at (x : FVec Ideal S8x4096x32 .f32) (a : FVec Ideal S4096x4096 .f32) (W : FVec Ideal S3x32x16 .f32) (b : FVec Ideal S16 .f32)
    (i : Fin 8) (n : Fin 4096) (o : Fin 16) :
    (cheb2 x a W b (ix3 i n o) : EReal)
      = max (∑ f : Fin 32, (x (ix3 i n f) : EReal) * W (ix3 0 f o) + ∑ f : Fin 32, (∑ k : Fin 4096, (x (ix3 i k f) : EReal) * a (ix2 n k)) * W (ix3 1 f o)
          + ∑ f : Fin 32, (((2 : ℝ) : EReal) * ∑ k : Fin 4096, (∑ l : Fin 4096, (x (ix3 i l f) : EReal) * a (ix2 k l)) * a (ix2 n k) - x (ix3 i n f)) * W (ix3 2 f o)
        + b (ix1 o)) 0 := by
  pointwise [cheb2, hop2]
  rw [two_word]

/-- The first dense product, at an index. -/
theorem dense_at (h : FVec Ideal S8x4096x16 .f32) (w : FVec Ideal S65536x512 .f32) (r : Fin 8) (j : Fin 512) :
    (dense h w (ix2 r j) : EReal)
      = ∑ k : Fin 65536, (h (ix3 r ⟨k.val / 16, by omega⟩ ⟨k.val % 16, by omega⟩) : EReal) * w (ix2 k j) := by
  pointwise [dense]

/-- A largest value started from `b` is not below `b`. -/
theorem max_fold_self {n : ℕ} (b : EReal) (f : Fin n → EReal) : max b (Finset.fold max b f Finset.univ) = Finset.fold max b f Finset.univ :=
  max_eq_right ((Finset.le_fold_max _).2 (.inl le_rfl))

/-- From the first dense product on the reference and the kernel do the same. -/
theorem tail_eq (s : FVec Ideal S8x512 .f32) (b1 : FVec Ideal S512 .f32) (w2 : FVec Ideal S512x128 .f32) (b2 : FVec Ideal S128 .f32)
    (w3 : FVec Ideal S128x10 .f32) (b3 : FVec Ideal S10 .f32) :
    soft (logits s b1 w2 b2 w3 b3) = Cert.KernelIdeal.Gen.k1_pay3 (F := Ideal) s (shapeCast _ b1 Cert.KernelIdeal.Gen.shapeCasts_S512_S1x512) w2
      (shapeCast _ b2 Cert.KernelIdeal.Gen.shapeCasts_S128_S1x128) w3 (shapeCast _ b3 Cert.KernelIdeal.Gen.shapeCasts_S10_S1x10) := by
  funext z
  pointwise [soft, expo, logits, Cert.KernelIdeal.Gen.k1_pay3]
  simp only [max_fold_self]

end Cert.Proof.Ref

end
-- ==== Proof.Value.lean ====
/-
  The two programs' results are equal when the convolutions' inputs, but for the second bias, are real numbers.
-/
module

public import proofs.«01_k».proof.Proof.Layers
public import proofs.«01_k».proof.Proof.HeadVal
public import proofs.«01_k».proof.Proof.Launch
public import proofs.«01_k».proof.Proof.Ref

@[expose] public section

set_option maxRecDepth 16384

noncomputable section

namespace Cert.Proof

open Cert.KernelIdeal Cert.KernelIdeal.Gen
open Idealize.ShloMosaic Idealize.ShloMosaic.TcCoe
open Cert.Proof.HostVals Cert.Proof.Layers

variable {m : (ℓ : Loc nD τ sig) → Buf (Elt Ideal) ℓ} {c : Dev nD} {R : Reals}

/-- The reference's first convolution of the arguments. -/
abbrev refH (m : (ℓ : Loc nD τ sig) → Buf (Elt Ideal) ℓ) (c : Dev nD) : FVec Ideal Cert.ReferenceIdeal.S8x4096x32 .f32 :=
  Ref.cheb1 (m ((c.tc : Thread nD τ).loc main_arg0)) (m ((c.tc : Thread nD τ).loc main_arg1)) (m ((c.tc : Thread nD τ).loc main_arg2))
    (m ((c.tc : Thread nD τ).loc main_arg3))

/-- Its second convolution, of the first's result. -/
abbrev refG (m : (ℓ : Loc nD τ sig) → Buf (Elt Ideal) ℓ) (c : Dev nD) : FVec Ideal Cert.ReferenceIdeal.S8x4096x16 .f32 :=
  Ref.cheb2 (refH m c) (m ((c.tc : Thread nD τ).loc main_arg1)) (m ((c.tc : Thread nD τ).loc main_arg4)) (m ((c.tc : Thread nD τ).loc main_arg5))

/-- The reference's first convolution is real. -/
theorem refH_at (h : R.Of m c) (i : Fin 8) (n : Fin 4096) (o : Fin 32) : (refH m c (ix3 i n o) : EReal) = (R.H i n o : EReal) := by
  refine (Ref.cheb1_at _ _ _ _ i n o).trans ?_
  simp only [h.hX, h.hA, h.hW1, h.hB1]
  rw [conv_coe (R.X i) R.A (fun j f => R.W1 j f o) n, ← EReal.coe_add, max_coe]
  rfl

/-- The reference's second convolution, at an index. -/
theorem refG_at (h : R.Of m c) (i : Fin 8) (n : Fin 4096) (o : Fin 16) : (refG m c (ix3 i n o) : EReal)
    = max (((conv (R.H i) R.A (fun j f => R.W2 j f o) n : ℝ) : EReal) + m ((c.tc : Thread nD τ).loc main_arg5) (ix1 o)) 0 := by
  refine (Ref.cheb2_at _ _ _ _ i n o).trans ?_
  simp only [refH_at h, h.hA, h.hW2]
  rw [conv_coe (R.H i) R.A (fun j f => R.W2 j f o) n]

/-- What the second kernel is given is the reference's second convolution, flattened. -/
theorem given_at (h : R.Of m c) (k : Fin 65536) (r : Fin 8) :
    Head.eG (fun c b => V9 m (outs m) c b) c k r = refG m c (ix3 r ⟨k.val / 16, by omega⟩ ⟨k.val % 16, by omega⟩) := by
  refine (v90_at m c (outs m) k r).trans ?_
  rw [V8_v89]
  refine (result_at h _ _).trans ((refG_at h _ _ _).trans ?_).symm
  have e1 : (⟨(k.val % 16 * 8 + r.val) % 8, by omega⟩ : Fin 8) = r := Fin.ext (by simp only; omega)
  have e2 : (⟨(k.val % 16 * 8 + r.val) / 8, by omega⟩ : Fin 16) = ⟨k.val % 16, by omega⟩ := Fin.ext (by simp only; omega)
  simp only [e1, e2]

/-- The first dense product, at an index. -/
theorem acc_ref_at (h : R.Of m c) (r : Fin 8) (j : Fin 512) : (Head.acc (fun c b => V9 m (outs m) c b) c 7 (ix2 r j) : EReal)
    = Ref.dense (refG m c) (m ((c.tc : Thread nD τ).loc main_arg6)) (ix2 r j) := by
  refine (Head.acc_last _ c r j).trans ((Ref.dense_at _ _ r j).trans ?_).symm
  refine Finset.sum_congr rfl fun k _ => ?_
  rw [given_at h]
  exact congrArg _ (congrFun (arg6_eq m c (outs m)) _).symm

/-- The first dense product. -/
theorem acc_eq (h : R.Of m c) : Head.acc (fun c b => V9 m (outs m) c b) c 7 = Ref.dense (refG m c) (m ((c.tc : Thread nD τ).loc main_arg6)) := by
  funext z
  have hz : z = ix2 (z 0) (z 1) := funext fun a => by
    match a with
    | 0 => rfl
    | 1 => rfl
  rw [hz]
  exact acc_ref_at h (z 0) (z 1)

/-- The program's result is the reference's function of the arguments. -/
theorem yOut_ref (h : R.Of m c) : yOut m c = Ref.soft (Ref.logits (Ref.dense (refG m c) (m ((c.tc : Thread nD τ).loc main_arg6)))
    (m ((c.tc : Thread nD τ).loc main_arg7)) (m ((c.tc : Thread nD τ).loc main_arg8)) (m ((c.tc : Thread nD τ).loc main_arg9))
    (m ((c.tc : Thread nD τ).loc main_arg10)) (m ((c.tc : Thread nD τ).loc main_arg11))) := by
  rw [Ref.tail_eq, ← V10_v94, yOut_eq, Head.result_eq, Head.out, acc_eq h, Head.blk2_eq, Head.blk3_eq, Head.blk4_eq, Head.blk5_eq, Head.blk6_eq,
    v91_eq, v92_eq, v93_eq, arg8_eq, arg10_eq]

end Cert.Proof

end
-- ==== Proof.Finite.lean ====
/-
  The precondition read: the convolutions' inputs, but for the second bias, are real numbers.
-/
module

public import proofs.«01_k».proof.Defs
public import proofs.«01_k».proof.Proof.Gen.Pre_finite_network
public import proofs.«01_k».proof.Proof.Layers

@[expose] public section

set_option maxRecDepth 16384

noncomputable section

namespace Cert.Proof

open Cert.KernelIdeal Cert.KernelIdeal.Gen
open Idealize.ShloMosaic Idealize.ShloMosaic.TcCoe
open Cert.Proof.Layers

/-- The word of minus infinity. -/
theorem bot_word : Ideal.ofBits .f32 0xFF800000#32 = ⊥ := by
  simp [Ideal.ofBits, Ideal.ieee]

/-- The word of infinity. -/
theorem top_word : Ideal.ofBits .f32 0x7F800000#32 = ⊤ := by
  simp [Ideal.ofBits, Ideal.ieee]

/-- A number between the two infinities is real. -/
theorem real_of {x : EReal}
    (h : IntOp.andi (Ideal.cmp .ogt x (Ideal.ofBits .f32 0xFF800000#32)) (Ideal.cmp .olt x (Ideal.ofBits .f32 0x7F800000#32)) = 1#1) :
    x = ((x.toReal : ℝ) : EReal) := by
  rw [bot_word, top_word] at h
  refine (EReal.coe_toReal ?_ ?_).symm
  · rintro rfl
    revert h
    simp [Ideal.cmp, IntOp.andi]
  · rintro rfl
    revert h
    simp [Ideal.cmp, IntOp.andi]

variable (m : (ℓ : Loc nD τ sig) → Buf (Elt Ideal) ℓ) (c : Dev nD)

/-- The real numbers the arguments hold. -/
def reals : Reals where
  X i n f := EReal.toReal (m ((c.tc : Thread nD τ).loc main_arg0) (ix3 i n f))
  A n k := EReal.toReal (m ((c.tc : Thread nD τ).loc main_arg1) (ix2 n k))
  W1 i f o := EReal.toReal (m ((c.tc : Thread nD τ).loc main_arg2) (ix3 i f o))
  B1 o := EReal.toReal (m ((c.tc : Thread nD τ).loc main_arg3) (ix1 o))
  W2 i f o := EReal.toReal (m ((c.tc : Thread nD τ).loc main_arg4) (ix3 i f o))

/-- Under the precondition the arguments hold these real numbers. -/
theorem reals_of (h : Pre_KernelIdeal_finite_network m) : (reals m c).Of m c where
  hX i n f := real_of (congrFun (h c).1 (ix3 i n f))
  hA n k := real_of (congrFun (h c).2.1 (ix2 n k))
  hW1 i f o := real_of (congrFun (h c).2.2.1 (ix3 i f o))
  hB1 o := real_of (congrFun (h c).2.2.2.1 (ix1 o))
  hW2 i f o := real_of (congrFun (h c).2.2.2.2 (ix3 i f o))

end Cert.Proof

end
-- ==== Proof.Algebraic.lean ====
/-
  The value claim: from arguments that agree, and whose convolutions' inputs are finite, the two programs end with the
  same result.
-/
module

public import proofs.«01_k».proof.Proof.Frames
public import proofs.«01_k».proof.Proof.Value
public import proofs.«01_k».proof.Proof.Finite

@[expose] public section

set_option maxRecDepth 16384

noncomputable section

namespace Cert.Proof

open Idealize.ShloMosaic Idealize.ShloMosaic.TcCoe
open Idealize.SL.Sem

/-- The kernel's run: its result is `yOut`, its arguments are untouched. -/
theorem run_result {F : FTy → Type} [FloatOps F]
    (m : (ℓ : Loc Cert.KernelIdeal.nD Cert.KernelIdeal.τ Cert.KernelIdeal.sig) → Buf (Elt F) ℓ)
    (mem : (ℓ : Loc Cert.KernelIdeal.nD Cert.KernelIdeal.τ Cert.KernelIdeal.sig) → Buf (Elt F) ℓ) (c : Dev Cert.KernelIdeal.nD)
    (h : ∀ c : Dev Cert.KernelIdeal.nD, ∀ b ∈ Pipeline.ucRefs Cert.KernelIdeal.τ Cert.KernelIdeal.sig,
      mem (c, b) = Cert.KernelIdeal.Gen.V10 m (outs m) c b) :
    mem ((c.tc : Thread Cert.KernelIdeal.nD Cert.KernelIdeal.τ).loc Cert.KernelIdeal.main_v94) = yOut m c :=
  (h c (Proc.devRef .tc Cert.KernelIdeal.main_v94) (Finset.mem_filter.mpr ⟨StableHlo.devRef_mem_tcRefs Cert.KernelIdeal.main_v94,
    by rw [show (Proc.devRef (τ := Cert.KernelIdeal.τ) .tc Cert.KernelIdeal.main_v94).isScoped = false from rfl]; exact Bool.false_ne_true⟩)).trans (V10_v94 m c)

/-- From arguments that agree the reference's result is the kernel's. -/
theorem result_same {m : (ℓ : Loc Cert.KernelIdeal.nD Cert.KernelIdeal.τ Cert.KernelIdeal.sig) → Buf (Elt Ideal) ℓ}
    {c : Dev Cert.KernelIdeal.nD} {R : Layers.Reals} (h : R.Of m c)
    (m' : (ℓ : Loc Cert.ReferenceIdeal.nD Cert.ReferenceIdeal.τ Cert.ReferenceIdeal.sig) → Buf (Elt Ideal) ℓ)
    (e0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (e1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (e2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (e3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (e4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (e5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (e6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (e7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7))
    (e8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8))
    (e9 : m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9))
    (e10 : m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10))
    (e11 : m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) :
    Cert.ReferenceIdeal.Value.res_main_v69 (F := Ideal) m' c = yOut m c := by
  rw [yOut_ref h, Ref.result_eq, e0, e1, e2, e3, e4, e5, e6, e7, e8, e9, e10, e11]

/-- The value claim. -/
theorem algebraic : @algebraic_KernelIdeal_ReferenceIdeal_pre_finite_network Cert.KernelIdeal.Gen.facts Cert.ReferenceIdeal.Gen.facts
    Cert.Pre_finite_network.Gen.facts := fun m g m' g' hpre ha =>
  ⟨yOut m,
    (θ_run _ _ _).mono (fun r h c => ⟨run_result m r.2.mem c h.1, args_kept m r.2.mem h.1 c⟩) (run_all m g),
    (θ_run _ _ _).mono (fun r h c => by
      obtain ⟨e0, e1, e2, e3, e4, e5, e6, e7, e8, e9, e10, e11⟩ := ha c
      exact ⟨(h c).1.trans (result_same (reals_of m c hpre) m' e0 e1 e2 e3 e4 e5 e6 e7 e8 e9 e10 e11), (h c).2⟩)
      (Cert.ReferenceIdeal.Value.run (F := Ideal) m' g')⟩

end Cert.Proof

end
-- ==== Proof.lean ====
/- The proof of the certificate's claim. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Pre_finite_network
public import proofs.«01_k».proof.Proof.Launch
public import proofs.«01_k».proof.Proof.Frames
public import proofs.«01_k».proof.Proof.Algebraic

@[expose] public section

noncomputable section

namespace Cert.Proof

/-- Every claim: the three programs' runs, with the precondition and without it, and the equality of the results. -/
theorem claim : Cert.Claim :=
  ⟨Cert.Kernel.Gen.facts, Cert.KernelIdeal.Gen.facts, Cert.ReferenceIdeal.Gen.facts, Cert.Pre_finite_network.Gen.facts, quiescent_kernel,
    quiescent_kernel_ideal, fun m g _ => quiescent_kernel_ideal m g trivial, quiescent_reference,
    fun m g _ => quiescent_reference m g trivial, trivial, algebraic⟩

end Cert.Proof

end
